-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_five_nearest_differ [hPre_five_nearest_differ : Cert.Pre_five_nearest_differ.Facts] (m : (ℓ : Loc Cert.KernelIdeal.nD Cert.KernelIdeal.τ Cert.KernelIdeal.sig) → Buf (Elt Ideal) ℓ) : Prop :=
  ∀ c : Dev Cert.KernelIdeal.nD,
    (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_five_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_five_nearest_differ [hPre_five_nearest_differ : Cert.Pre_five_nearest_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_five_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_five_nearest_differ [hKernelIdeal : Cert.KernelIdeal.Facts] [hPre_five_nearest_differ : Cert.Pre_five_nearest_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_five_nearest_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_five_nearest_differ [hReferenceIdeal : Cert.ReferenceIdeal.Facts] [hPre_five_nearest_differ : Cert.Pre_five_nearest_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_five_nearest_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_five_nearest_differ [hKernelIdeal : Cert.KernelIdeal.Facts] [hReferenceIdeal : Cert.ReferenceIdeal.Facts] [hPre_five_nearest_differ : Cert.Pre_five_nearest_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_five_nearest_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_five_nearest_differ : Cert.Pre_five_nearest_differ.Facts),
    quiescent_Kernel (hKernel := hKernel)
    ∧ quiescent_KernelIdeal (hKernelIdeal := hKernelIdeal)
    ∧ quiescent_KernelIdeal_pre_five_nearest_differ (hKernelIdeal := hKernelIdeal) (hPre_five_nearest_differ := hPre_five_nearest_differ)
    ∧ quiescent_ReferenceIdeal (hReferenceIdeal := hReferenceIdeal)
    ∧ quiescent_ReferenceIdeal_pre_five_nearest_differ (hReferenceIdeal := hReferenceIdeal) (hPre_five_nearest_differ := hPre_five_nearest_differ)
    ∧ preserves_Kernel_KernelIdeal
    ∧ algebraic_KernelIdeal_ReferenceIdeal_pre_five_nearest_differ (hKernelIdeal := hKernelIdeal) (hReferenceIdeal := hReferenceIdeal) (hPre_five_nearest_differ := hPre_five_nearest_differ)
-- ==== Pre_five_nearest_differ.lean ====
abbrev S8x3x4096 : Shape := ⟨3, ![8, 3, 4096]⟩
abbrev S8x3x1024 : Shape := ⟨3, ![8, 3, 1024]⟩
abbrev S8x4096x256 : Shape := ⟨3, ![8, 4096, 256]⟩
abbrev S8x256x1024 : Shape := ⟨3, ![8, 256, 1024]⟩
abbrev S512x512 : Shape := ⟨2, ![512, 512]⟩
abbrev S512 : Shape := ⟨1, ![512]⟩
abbrev S8x4096x3 : Shape := ⟨3, ![8, 4096, 3]⟩
abbrev S8x1024x3 : Shape := ⟨3, ![8, 1024, 3]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x5 : Shape := ⟨3, ![8, 4096, 5]⟩
abbrev S8x4096x4 : Shape := ⟨3, ![8, 4096, 4]⟩

class Facts : Prop where
  transposes_S8x3x4096_S8x4096x3_0_2_1 : S8x3x4096.Transposes [0, 2, 1] S8x4096x3
  transposes_S8x3x1024_S8x1024x3_0_2_1 : S8x3x1024.Transposes [0, 2, 1] S8x1024x3
  bcast_S_S8x4096x1024 : S_.BroadcastsInDim S8x4096x1024 (![] : Fin 0 → Fin S8x4096x1024.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  sliceFits_S8x4096x1024_S8x4096x5 : S8x4096x1024.Slices (fun _ => 0) S8x4096x5
  bcast_S_S8x3x4096 : S_.BroadcastsInDim S8x3x4096 (![] : Fin 0 → Fin S8x3x4096.rank)
  bcast_S_S8x3x1024 : S_.BroadcastsInDim S8x3x1024 (![] : Fin 0 → Fin S8x3x1024.rank)
  bcast_S_S8x4096x256 : S_.BroadcastsInDim S8x4096x256 (![] : Fin 0 → Fin S8x4096x256.rank)
  bcast_S_S8x256x1024 : S_.BroadcastsInDim S8x256x1024 (![] : Fin 0 → Fin S8x256x1024.rank)
  bcast_S_S512x512 : S_.BroadcastsInDim S512x512 (![] : Fin 0 → Fin S512x512.rank)
  bcast_S_S512 : S_.BroadcastsInDim S512 (![] : Fin 0 → Fin S512.rank)
  slices_S8x4096x5_S8x4096x4_0_0_0 : S8x4096x5.Slices ![0, 0, 0] S8x4096x4
  slices_S8x4096x5_S8x4096x4_0_0_1 : S8x4096x5.Slices ![0, 0, 1] S8x4096x4
  dot_S8x4096x3_S8x1024x3_S8x4096x1024_2_2_1_1_0_0_wf : DotDims.WF S8x4096x3 S8x1024x3 S8x4096x1024 [2] [2] [1] [1] [0] [0]

variable [Facts]

def dot_S8x4096x3_S8x1024x3_S8x4096x1024_2_2_1_1_0_0 : DotDims S8x4096x3 S8x1024x3 S8x4096x1024 where
  lhsContracting := [2]
  rhsContracting := [2]
  lhsNonContracting := [1]
  rhsNonContracting := [1]
  lhsBatch := [0]
  rhsBatch := [0]
  wf := dot_S8x4096x3_S8x1024x3_S8x4096x1024_2_2_1_1_0_0_wf
def fn_part2 {F : FTy → Type} [FloatOps F] (main_arg7 : FVec F S512 .f32) (main_arg8 : FVec F S512x512 .f32) (main_arg9 : FVec F S512 .f32) (main_arg10 : FVec F S512 .f32) (main_values : FVec F S8x4096x5 .f32) (main_v18 : IVec S8x3x4096 1) (main_v21 : IVec S8x3x1024 1) (main_v24 : IVec S8x4096x256 1) (main_v27 : IVec S8x256x1024 1) (main_v30 : IVec S512x512 1) (main_v33 : IVec S512 1) (main_v34 : FVec F S512 .f32) (main_v35 : FVec F S512 .f32) : IVec S8x4096x4 1 × IVec S8x3x4096 1 × IVec S8x3x1024 1 × IVec S8x4096x256 1 × IVec S8x256x1024 1 × IVec S512x512 1 × IVec S512 1 × IVec S512 1 × IVec S512 1 × IVec S512x512 1 × IVec S512 1 × IVec S512 1 :=
  let main_v36 : IVec S512 1 := cmpf .olt main_v34 main_v35
  let main_v37 : FVec F S512 .f32 := Host.absf main_arg7
  let main_cst_9 : FVec F S_ .f32 := constant S_ .f32 0x7F800000#32
  let main_v38 : FVec F S512 .f32 := broadcastInDim S512 ![] bcast_S_S512 main_cst_9
  let main_v39 : IVec S512 1 := cmpf .olt main_v37 main_v38
  let main_v40 : FVec F S512x512 .f32 := Host.absf main_arg8
  let main_cst_10 : FVec F S_ .f32 := constant S_ .f32 0x7F800000#32
  let main_v41 : FVec F S512x512 .f32 := broadcastInDim S512x512 ![] bcast_S_S512x512 main_cst_10
  let main_v42 : IVec S512x512 1 := cmpf .olt main_v40 main_v41
  let main_v43 : FVec F S512 .f32 := Host.absf main_arg9
  let main_cst_11 : FVec F S_ .f32 := constant S_ .f32 0x7F800000#32
  let main_v44 : FVec F S512 .f32 := broadcastInDim S512 ![] bcast_S_S512 main_cst_11
  let main_v45 : IVec S512 1 := cmpf .olt main_v43 main_v44
  let main_v46 : FVec F S512 .f32 := Host.absf main_arg10
  let main_cst_12 : FVec F S_ .f32 := constant S_ .f32 0x7F800000#32
  let main_v47 : FVec F S512 .f32 := broadcastInDim S512 ![] bcast_S_S512 main_cst_12
  let main_v48 : IVec S512 1 := cmpf .olt main_v46 main_v47
  let main_v49 : FVec F S8x4096x4 .f32 := (extractStridedSlice S8x4096x4 ![0, 0, 0] · slices_S8x4096x5_S8x4096x4_0_0_0) main_values
  let main_v50 : FVec F S8x4096x4 .f32 := (extractStridedSlice S8x4096x4 ![0, 0, 1] · slices_S8x4096x5_S8x4096x4_0_0_1) main_values
  let main_v51 : IVec S8x4096x4 1 := cmpf .ogt main_v49 main_v50
  (main_v51, main_v18, main_v21, main_v24, main_v27, main_v30, main_v33, main_v36, main_v39, main_v42, main_v45, main_v48)

def fn_part1 {F : FTy → Type} [FloatOps F] (main_arg1 : FVec F S8x3x1024 .f32) (main_arg2 : FVec F S8x4096x256 .f32) (main_arg3 : FVec F S8x256x1024 .f32) (main_arg4 : FVec F S512x512 .f32) (main_arg5 : FVec F S512 .f32) (main_arg6 : FVec F S512 .f32) (main_arg7 : FVec F S512 .f32) (main_arg8 : FVec F S512x512 .f32) (main_arg9 : FVec F S512 .f32) (main_arg10 : FVec F S512 .f32) (main_values : FVec F S8x4096x5 .f32) (main_v16 : FVec F S8x3x4096 .f32) (main_v17 : FVec F S8x3x4096 .f32) : IVec S8x4096x4 1 × IVec S8x3x4096 1 × IVec S8x3x1024 1 × IVec S8x4096x256 1 × IVec S8x256x1024 1 × IVec S512x512 1 × IVec S512 1 × IVec S512 1 × IVec S512 1 × IVec S512x512 1 × IVec S512 1 × IVec S512 1 :=
  let main_v18 : IVec S8x3x4096 1 := cmpf .olt main_v16 main_v17
  let main_v19 : FVec F S8x3x1024 .f32 := Host.absf main_arg1
  let main_cst_3 : FVec F S_ .f32 := constant S_ .f32 0x7F800000#32
  let main_v20 : FVec F S8x3x1024 .f32 := broadcastInDim S8x3x1024 ![] bcast_S_S8x3x1024 main_cst_3
  let main_v21 : IVec S8x3x1024 1 := cmpf .olt main_v19 main_v20
  let main_v22 : FVec F S8x4096x256 .f32 := Host.absf main_arg2
  let main_cst_4 : FVec F S_ .f32 := constant S_ .f32 0x7F800000#32
  let main_v23 : FVec F S8x4096x256 .f32 := broadcastInDim S8x4096x256 ![] bcast_S_S8x4096x256 main_cst_4
  let main_v24 : IVec S8x4096x256 1 := cmpf .olt main_v22 main_v23
  let main_v25 : FVec F S8x256x1024 .f32 := Host.absf main_arg3
  let main_cst_5 : FVec F S_ .f32 := constant S_ .f32 0x7F800000#32
  let main_v26 : FVec F S8x256x1024 .f32 := broadcastInDim S8x256x1024 ![] bcast_S_S8x256x1024 main_cst_5
  let main_v27 : IVec S8x256x1024 1 := cmpf .olt main_v25 main_v26
  let main_v28 : FVec F S512x512 .f32 := Host.absf main_arg4
  let main_cst_6 : FVec F S_ .f32 := constant S_ .f32 0x7F800000#32
  let main_v29 : FVec F S512x512 .f32 := broadcastInDim S512x512 ![] bcast_S_S512x512 main_cst_6
  let main_v30 : IVec S512x512 1 := cmpf .olt main_v28 main_v29
  let main_v31 : FVec F S512 .f32 := Host.absf main_arg5
  let main_cst_7 : FVec F S_ .f32 := constant S_ .f32 0x7F800000#32
  let main_v32 : FVec F S512 .f32 := broadcastInDim S512 ![] bcast_S_S512 main_cst_7
  let main_v33 : IVec S512 1 := cmpf .olt main_v31 main_v32
  let main_v34 : FVec F S512 .f32 := Host.absf main_arg6
  let main_cst_8 : FVec F S_ .f32 := constant S_ .f32 0x7F800000#32
  let main_v35 : FVec F S512 .f32 := broadcastInDim S512 ![] bcast_S_S512 main_cst_8
  fn_part2 (F := F) main_arg7 main_arg8 main_arg9 main_arg10 main_values main_v18 main_v21 main_v24 main_v27 main_v30 main_v33 main_v34 main_v35

def fn {F : FTy → Type} [FloatOps F] (main_arg0 : FVec F S8x3x4096 .f32) (main_arg1 : FVec F S8x3x1024 .f32) (main_arg2 : FVec F S8x4096x256 .f32) (main_arg3 : FVec F S8x256x1024 .f32) (main_arg4 : FVec F S512x512 .f32) (main_arg5 : FVec F S512 .f32) (main_arg6 : FVec F S512 .f32) (main_arg7 : FVec F S512 .f32) (main_arg8 : FVec F S512x512 .f32) (main_arg9 : FVec F S512 .f32) (main_arg10 : FVec F S512 .f32) (main_arg11 : FVec F S512 .f32) : IVec S8x4096x4 1 × IVec S8x3x4096 1 × IVec S8x3x1024 1 × IVec S8x4096x256 1 × IVec S8x256x1024 1 × IVec S512x512 1 × IVec S512 1 × IVec S512 1 × IVec S512 1 × IVec S512x512 1 × IVec S512 1 × IVec S512 1 :=
  let main_v0 : FVec F S8x4096x3 .f32 := (transpose S8x4096x3 [0, 2, 1] · transposes_S8x3x4096_S8x4096x3_0_2_1) main_arg0
  let main_v1 : FVec F S8x1024x3 .f32 := (transpose S8x1024x3 [0, 2, 1] · transposes_S8x3x1024_S8x1024x3_0_2_1) main_arg1
  let main_v2 : FVec F S8x4096x1024 .f32 := (fun l r => Host.dotGeneral dot_S8x4096x3_S8x1024x3_S8x4096x1024_2_2_1_1_0_0 none l r) main_v0 main_v1
  let main_cst : FVec F S_ .f32 := constant S_ .f32 0xC0000000#32
  let main_v3 : FVec F S8x4096x1024 .f32 := broadcastInDim S8x4096x1024 ![] bcast_S_S8x4096x1024 main_cst
  let main_v4 : FVec F S8x4096x1024 .f32 := mulf main_v3 main_v2
  let main_v5 : FVec F S8x4096x3 .f32 := mulf main_v0 main_v0
  let main_cst_0 : FVec F S_ .f32 := constant S_ .f32 0x00000000#32
  let main_v6 : FVec F S8x4096 .f32 := (fun x v => Host.reduceAdd x v reducesTo_S8x4096x3_S8x4096_d2 h_S_) main_v5 main_cst_0
  let main_v7 : FVec F S8x4096x1 .f32 := broadcastInDim S8x4096x1 ![0, 1] bcast_S8x4096_S8x4096x1_0_1 main_v6
  let main_v8 : FVec F S8x4096x1024 .f32 := broadcastInDim S8x4096x1024 ![0, 1, 2] bcast_S8x4096x1_S8x4096x1024_0_1_2 main_v7
  let main_v9 : FVec F S8x4096x1024 .f32 := addf main_v4 main_v8
  let main_v10 : FVec F S8x1024x3 .f32 := mulf main_v1 main_v1
  let main_cst_1 : FVec F S_ .f32 := constant S_ .f32 0x00000000#32
  let main_v11 : FVec F S8x1024 .f32 := (fun x v => Host.reduceAdd x v reducesTo_S8x1024x3_S8x1024_d2 h_S_) main_v10 main_cst_1
  let main_v12 : FVec F S8x1x1024 .f32 := broadcastInDim S8x1x1024 ![0, 2] bcast_S8x1024_S8x1x1024_0_2 main_v11
  let main_v13 : FVec F S8x4096x1024 .f32 := broadcastInDim S8x4096x1024 ![0, 1, 2] bcast_S8x1x1024_S8x4096x1024_0_1_2 main_v12
  let main_v14 : FVec F S8x4096x1024 .f32 := addf main_v9 main_v13
  let main_v15 : FVec F S8x4096x1024 .f32 := Host.negf main_v14
  let main_values : FVec F S8x4096x5 .f32 := (fun x => (Host.topK S8x4096x5 2 (FloatOps.cmpfTotal .gt) x sliceFits_S8x4096x1024_S8x4096x5).1) main_v15
  let main_indices : IVec S8x4096x5 32 := (fun x => (Host.topK S8x4096x5 2 (FloatOps.cmpfTotal .gt) x sliceFits_S8x4096x1024_S8x4096x5).2) main_v15
  let main_v16 : FVec F S8x3x4096 .f32 := Host.absf main_arg0
  let main_cst_2 : FVec F S_ .f32 := constant S_ .f32 0x7F800000#32
  let main_v17 : FVec F S8x3x4096 .f32 := broadcastInDim S8x3x4096 ![] bcast_S_S8x3x4096 main_cst_2
  fn_part1 (F := F) main_arg1 main_arg2 main_arg3 main_arg4 main_arg5 main_arg6 main_arg7 main_arg8 main_arg9 main_arg10 main_values main_v16 main_v17
-- ==== Kernel.lean ====
abbrev S8x3x4096 : Shape := ⟨3, ![8, 3, 4096]⟩
abbrev S8x3x1024 : Shape := ⟨3, ![8, 3, 1024]⟩
abbrev S8x4096x256 : Shape := ⟨3, ![8, 4096, 256]⟩
abbrev S8x256x1024 : Shape := ⟨3, ![8, 256, 1024]⟩
abbrev S512x512 : Shape := ⟨2, ![512, 512]⟩
abbrev S512 : Shape := ⟨1, ![512]⟩
abbrev S8x4096x3 : Shape := ⟨3, ![8, 4096, 3]⟩
abbrev S512x1 : Shape := ⟨2, ![512, 1]⟩
abbrev S8x512x4096 : Shape := ⟨3, ![8, 512, 4096]⟩
abbrev S1x1024x3 : Shape := ⟨3, ![1, 1024, 3]⟩
abbrev S1x3x1024 : Shape := ⟨3, ![1, 3, 1024]⟩
abbrev S1x1024x256 : Shape := ⟨3, ![1, 1024, 256]⟩
abbrev S1x256x1024 : Shape := ⟨3, ![1, 256, 1024]⟩
abbrev S1x512x1024 : Shape := ⟨3, ![1, 512, 1024]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩
abbrev S1024x256 : Shape := ⟨2, ![1024, 256]⟩
abbrev S512x256 : Shape := ⟨2, ![512, 256]⟩
abbrev S512x1024 : Shape := ⟨2, ![512, 1024]⟩
abbrev S1x512x2048 : Shape := ⟨3, ![1, 512, 2048]⟩
abbrev S512x2048 : Shape := ⟨2, ![512, 2048]⟩

abbrev nBuf : Space → Nat
  | .hbm => 38
  | .vmem => 38
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x4096x256, .f32⟩
  | .hbm, ⟨3, _⟩ => ⟨S8x256x1024, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8x4096x3, .f32⟩
  | .hbm, ⟨13, _⟩ => ⟨S8x256x1024, .bf16⟩
  | .hbm, ⟨14, _⟩ => ⟨S8x256x1024, .f32⟩
  | .hbm, ⟨15, _⟩ => ⟨S8x256x1024, .f32⟩
  | .hbm, ⟨16, _⟩ => ⟨S8x256x1024, .bf16⟩
  | .hbm, ⟨17, _⟩ => ⟨S512x512, .bf16⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S512x512, .bf16⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S512x1, .f32⟩
  | .hbm, ⟨26, _⟩ => ⟨S8x512x4096, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S8x512x4096, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S8x512x4096, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x512, .bf16⟩
  | .local _ .vmem, ⟨11, _⟩ => ⟨S512x512, .bf16⟩
  | .local _ .vmem, ⟨12, _⟩ => ⟨S512x1, .f32⟩
  | .local _ .vmem, ⟨13, _⟩ => ⟨S1x512x1024, .f32⟩
  | .local _ .vmem, ⟨14, _⟩ => ⟨S1x512x1024, .f32⟩
  | .local _ .vmem, ⟨15, _⟩ => ⟨S512x1, .f32⟩
  | .local _ .vmem, ⟨16, _⟩ => ⟨S512x1, .f32⟩
  | .local _ .vmem, ⟨17, _⟩ => ⟨S1x512x2048, .f32⟩
  | .local _ .vmem, ⟨18, _⟩ => ⟨S1x512x2048, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x512, .bf16⟩
  | .local _ .vmem, ⟨24, _⟩ => ⟨S512x512, .bf16⟩
  | .local _ .vmem, ⟨25, _⟩ => ⟨S512x1, .f32⟩
  | .local _ .vmem, ⟨26, _⟩ => ⟨S1x512x2048, .f32⟩
  | .local _ .vmem, ⟨27, _⟩ => ⟨S1x512x2048, .f32⟩
  | .local _ .vmem, ⟨28, _⟩ => ⟨S512x1, .f32⟩
  | .local _ .vmem, ⟨29, _⟩ => ⟨S512x1, .f32⟩
  | .local _ .vmem, ⟨30, _⟩ => ⟨S1x512x2048, .f32⟩
  | .local _ .vmem, ⟨31, _⟩ => ⟨S1x512x2048, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S1x512x2048, .f32⟩
  | .local _ .vmem, ⟨37, _⟩ => ⟨S1x512x2048, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem10_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S512x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S8x3x4096 : Shape := ⟨3, ![8, 3, 4096]⟩
abbrev S8x3x1024 : Shape := ⟨3, ![8, 3, 1024]⟩
abbrev S8x4096x256 : Shape := ⟨3, ![8, 4096, 256]⟩
abbrev S8x256x1024 : Shape := ⟨3, ![8, 256, 1024]⟩
abbrev S512x512 : Shape := ⟨2, ![512, 512]⟩
abbrev S512 : Shape := ⟨1, ![512]⟩
abbrev S8x4096x3 : Shape := ⟨3, ![8, 4096, 3]⟩
abbrev S8x1024x3 : Shape := ⟨3, ![8, 1024, 3]⟩
abbrev S8x1024x256 : Shape := ⟨3, ![8, 1024, 256]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x4 : Shape := ⟨3, ![8, 4096, 4]⟩
abbrev S8x4096x4x1 : Shape := ⟨4, ![8, 4096, 4, 1]⟩
abbrev S8x4096x4x256 : Shape := ⟨4, ![8, 4096, 4, 256]⟩
abbrev S8x4096x512 : Shape := ⟨3, ![8, 4096, 512]⟩
abbrev S8x512x4096 : Shape := ⟨3, ![8, 512, 4096]⟩
abbrev S1x512x1 : Shape := ⟨3, ![1, 512, 1]⟩

abbrev nBuf : Space → Nat
  | .hbm => 166
  | .vmem => 0
  | .smem => 0
  | _ => 0

abbrev hbmTy0_0 (i : Nat) : BufTy := match i % 128 with
  | 0 => ⟨S8x3x4096, .f32⟩
  | 1 => ⟨S8x3x1024, .f32⟩
  | 2 => ⟨S8x4096x256, .f32⟩
  | 3 => ⟨S8x256x1024, .f32⟩
  | 4 => ⟨S512x512, .f32⟩
  | 5 => ⟨S512, .f32⟩
  | 6 => ⟨S512, .f32⟩
  | 7 => ⟨S512, .f32⟩
  | 8 => ⟨S512x512, .f32⟩
  | 9 => ⟨S512, .f32⟩
  | 10 => ⟨S512, .f32⟩
  | 11 => ⟨S512, .f32⟩
  | 12 => ⟨S8x4096x3, .f32⟩
  | 13 => ⟨S8x1024x3, .f32⟩
  | 14 => ⟨S8x1024x256, .f32⟩
  | 15 => ⟨S8x4096x1024, .f32⟩
  | 16 => ⟨S_, .f32⟩
  | 17 => ⟨S8x4096x1024, .f32⟩
  | 18 => ⟨S8x4096x1024, .f32⟩
  | 19 => ⟨S8x4096x3, .f32⟩
  | 20 => ⟨S_, .f32⟩
  | 21 => ⟨S8x4096, .f32⟩
  | 22 => ⟨S8x4096x1, .f32⟩
  | 23 => ⟨S8x4096x1024, .f32⟩
  | 24 => ⟨S8x4096x1024, .f32⟩
  | 25 => ⟨S8x1024x3, .f32⟩
  | 26 => ⟨S_, .f32⟩
  | 27 => ⟨S8x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x4, .f32⟩
  | 33 => ⟨S8x4096x4, .i32⟩
  | 34 => ⟨S8x4096x4, .f32⟩
  | 35 => ⟨S_, .f32⟩
  | 36 => ⟨S8x4096x4, .f32⟩
  | 37 => ⟨S8x4096x4, .f32⟩
  | 38 => ⟨S_, .f32⟩
  | 39 => ⟨S8x4096x4, .f32⟩
  | 40 => ⟨S8x4096x4, .f32⟩
  | 41 => ⟨S_, .f32⟩
  | 42 => ⟨S8x4096, .f32⟩
  | 43 => ⟨S8x4096x1, .f32⟩
  | 44 => ⟨S8x4096x4, .f32⟩
  | 45 => ⟨S8x4096x4, .f32⟩
  | 46 => ⟨S_, .i32⟩
  | 47 => ⟨S8x4096x4, .i32⟩
  | 48 => ⟨S8x4096x4, .i1⟩
  | 49 => ⟨S_, .i32⟩
  | 50 => ⟨S8x4096x4, .i32⟩
  | 51 => ⟨S8x4096x4, .i32⟩
  | 52 => ⟨S8x4096x4, .i32⟩
  | 53 => ⟨S8x4096x4x1, .i32⟩
  | 54 => ⟨S8x4096x4x256, .f32⟩
  | 55 => ⟨S8x4096x4x1, .f32⟩
  | 56 => ⟨S8x4096x4x256, .f32⟩
  | 57 => ⟨S8x4096x4x256, .f32⟩
  | 58 => ⟨S_, .f32⟩
  | 59 => ⟨S8x4096x256, .f32⟩
  | 60 => ⟨S8x4096x512, .f32⟩
  | 61 => ⟨S8x512x4096, .f32⟩
  | 62 => ⟨S8x4096x512, .f32⟩
  | 63 => ⟨S8x512x4096, .f32⟩
  | 64 => ⟨S1x512x1, .f32⟩
  | 65 => ⟨S8x512x4096, .f32⟩
  | 66 => ⟨S8x512x4096, .f32⟩
  | 67 => ⟨S_, .f32⟩
  | 68 => ⟨S512, .f32⟩
  | 69 => ⟨S1x512x1, .f32⟩
  | 70 => ⟨S_, .f32⟩
  | 71 => ⟨S1x512x1, .f32⟩
  | 72 => ⟨S1x512x1, .f32⟩
  | 73 => ⟨S_, .i32⟩
  | 74 => ⟨S_, .f32⟩
  | 75 => ⟨S512, .f32⟩
  | 76 => ⟨S1x512x1, .f32⟩
  | 77 => ⟨S_, .f32⟩
  | 78 => ⟨S1x512x1, .f32⟩
  | 79 => ⟨S1x512x1, .f32⟩
  | 80 => ⟨S8x512x4096, .f32⟩
  | 81 => ⟨S8x512x4096, .f32⟩
  | 82 => ⟨S8x512x4096, .f32⟩
  | 83 => ⟨S_, .f32⟩
  | 84 => ⟨S_, .f32⟩
  | 85 => ⟨S_, .f32⟩
  | 86 => ⟨S_, .f32⟩
  | 87 => ⟨S512, .f32⟩
  | 88 => ⟨S1x512x1, .f32⟩
  | 89 => ⟨S1x512x1, .f32⟩
  | 90 => ⟨S1x512x1, .f32⟩
  | 91 => ⟨S_, .f32⟩
  | 92 => ⟨S_, .i1⟩
  | 93 => ⟨S_, .f32⟩
  | 94 => ⟨S_, .f32⟩
  | 95 => ⟨S1x512x1, .f32⟩
  | 96 => ⟨S1x512x1, .f32⟩
  | 97 => ⟨S8x512x4096, .f32⟩
  | 98 => ⟨S8x512x4096, .f32⟩
  | 99 => ⟨S_, .f32⟩
  | 100 => ⟨S1x512x1, .f32⟩
  | 101 => ⟨S1x512x1, .f32⟩
  | 102 => ⟨S1x512x1, .f32⟩
  | 103 => ⟨S8x512x4096, .f32⟩
  | 104 => ⟨S8x512x4096, .f32⟩
  | 105 => ⟨S1x512x1, .f32⟩
  | 106 => ⟨S8x512x4096, .f32⟩
  | 107 => ⟨S8x512x4096, .f32⟩
  | 108 => ⟨S1x512x1, .f32⟩
  | 109 => ⟨S8x512x4096, .f32⟩
  | 110 => ⟨S8x512x4096, .f32⟩
  | 111 => ⟨S_, .f32⟩
  | 112 => ⟨S8x512x4096, .f32⟩
  | 113 => ⟨S8x512x4096, .f32⟩
  | 114 => ⟨S8x4096x512, .f32⟩
  | 115 => ⟨S8x512x4096, .f32⟩
  | 116 => ⟨S1x512x1, .f32⟩
  | 117 => ⟨S8x512x4096, .f32⟩
  | 118 => ⟨S8x512x4096, .f32⟩
  | 119 => ⟨S_, .f32⟩
  | 120 => ⟨S512, .f32⟩
  | 121 => ⟨S1x512x1, .f32⟩
  | 122 => ⟨S_, .f32⟩
  | 123 => ⟨S1x512x1, .f32⟩
  | 124 => ⟨S1x512x1, .f32⟩
  | 125 => ⟨S_, .i32⟩
  | 126 => ⟨S_, .f32⟩
  | 127 => ⟨S512, .f32⟩
  | _ => ⟨S8x3x4096, .f32⟩

abbrev hbmTy0_1 (i : Nat) : BufTy := match i % 128 with
  | 0 => ⟨S1x512x1, .f32⟩
  | 1 => ⟨S_, .f32⟩
  | 2 => ⟨S1x512x1, .f32⟩
  | 3 => ⟨S1x512x1, .f32⟩
  | 4 => ⟨S8x512x4096, .f32⟩
  | 5 => ⟨S8x512x4096, .f32⟩
  | 6 => ⟨S8x512x4096, .f32⟩
  | 7 => ⟨S_, .f32⟩
  | 8 => ⟨S_, .f32⟩
  | 9 => ⟨S_, .f32⟩
  | 10 => ⟨S_, .f32⟩
  | 11 => ⟨S512, .f32⟩
  | 12 => ⟨S1x512x1, .f32⟩
  | 13 => ⟨S1x512x1, .f32⟩
  | 14 => ⟨S1x512x1, .f32⟩
  | 15 => ⟨S_, .f32⟩
  | 16 => ⟨S_, .i1⟩
  | 17 => ⟨S_, .f32⟩
  | 18 => ⟨S_, .f32⟩
  | 19 => ⟨S1x512x1, .f32⟩
  | 20 => ⟨S1x512x1, .f32⟩
  | 21 => ⟨S8x512x4096, .f32⟩
  | 22 => ⟨S8x512x4096, .f32⟩
  | 23 => ⟨S_, .f32⟩
  | 24 => ⟨S1x512x1, .f32⟩
  | 25 => ⟨S1x512x1, .f32⟩
  | 26 => ⟨S1x512x1, .f32⟩
  | 27 => ⟨S8x512x4096, .f32⟩
  | 28 => ⟨S8x512x4096, .f32⟩
  | 29 => ⟨S1x512x1, .f32⟩
  | 30 => ⟨S8x512x4096, .f32⟩
  | 31 => ⟨S8x512x4096, .f32⟩
  | 32 => ⟨S1x512x1, .f32⟩
  | 33 => ⟨S8x512x4096, .f32⟩
  | 34 => ⟨S8x512x4096, .f32⟩
  | 35 => ⟨S_, .f32⟩
  | 36 => ⟨S8x512x4096, .f32⟩
  | 37 => ⟨S8x512x4096, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_values : Ref sig .tc := ⟨.hbm, 32, rfl⟩
abbrev main_indices : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_v12 : Ref sig .tc := ⟨.hbm, 90, rfl⟩
abbrev main_call0_cst_3 : Ref sig .tc := ⟨.hbm, 91, rfl⟩
abbrev main_call0_v13 : Ref sig .tc := ⟨.hbm, 92, rfl⟩
abbrev main_call0_cst_4 : Ref sig .tc := ⟨.hbm, 93, rfl⟩
abbrev main_call0_call0_v0 : Ref sig .tc := ⟨.hbm, 94, rfl⟩
abbrev main_call0_call0_v1 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call1_cst : Ref sig .tc := ⟨.hbm, 111, rfl⟩
abbrev main_call1_v0 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_11 : Ref sig .tc := ⟨.hbm, 119, rfl⟩
abbrev main_v68 : Ref sig .tc := ⟨.hbm, 120, rfl⟩
abbrev main_v69 : Ref sig .tc := ⟨.hbm, 121, rfl⟩
abbrev main_cst_12 : Ref sig .tc := ⟨.hbm, 122, rfl⟩
abbrev main_v70 : Ref sig .tc := ⟨.hbm, 123, rfl⟩
abbrev main_v71 : Ref sig .tc := ⟨.hbm, 124, rfl⟩
abbrev main_c_13 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_14 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_call3_cst : Ref sig .tc := ⟨.hbm, 163, rfl⟩
abbrev main_call3_v0 : Ref sig .tc := ⟨.hbm, 164, rfl⟩
abbrev main_v86 : Ref sig .tc := ⟨.hbm, 165, rfl⟩

abbrev nD : Nat := 1
abbrev τ : Topo := Topo.v7x

variable {F : FTy → Type} [FloatOps F]
-- ==== Proof.Constants.lean ====
/- The constants of the two programs, and sums and quotients of reals read in the extended reals. -/
module

public import Idealize.ShloMosaic.Lib.Pointwise

@[expose] public section

noncomputable section

open Idealize.ShloMosaic

namespace Cert.Constants

/-- What is added to a squared distance before inverting it: the float nearest 1e-8. -/
def tiny : ℝ := (Ideal.ofBits .f32 841731191#32).toReal

/-- What is added to a variance before its square root: the float nearest 1e-5. -/
def small : ℝ := (Ideal.ofBits .f32 925353388#32).toReal

theorem tiny_bits : ∃ r : ℝ, Ideal.ofBits .f32 841731191#32 = (r : EReal) ∧ 0 < r := by
  refine ⟨11258999 * (2 : ℝ) ^ (-50 : ℤ), ?_, by positivity⟩
  simp [Ideal.ofBits, Ideal.ieee, -EReal.coe_mul]

theorem small_bits : ∃ r : ℝ, Ideal.ofBits .f32 925353388#32 = (r : EReal) ∧ 0 < r := by
  refine ⟨10995116 * (2 : ℝ) ^ (-40 : ℤ), ?_, by positivity⟩
  simp [Ideal.ofBits, Ideal.ieee, -EReal.coe_mul]

theorem ofBits_tiny : Ideal.ofBits .f32 841731191#32 = (tiny : EReal) := by
  obtain ⟨r, h, _⟩ := tiny_bits
  unfold tiny; rw [h, EReal.toReal_coe]

theorem tiny_pos : 0 < tiny := by
  obtain ⟨r, h, h0⟩ := tiny_bits
  unfold tiny; rw [h, EReal.toReal_coe]; exact h0

theorem ofBits_small : Ideal.ofBits .f32 925353388#32 = (small : EReal) := by
  obtain ⟨r, h, _⟩ := small_bits
  unfold small; rw [h, EReal.toReal_coe]

theorem small_pos : 0 < small := by
  obtain ⟨r, h, h0⟩ := small_bits
  unfold small; rw [h, EReal.toReal_coe]; exact h0

theorem ofBits_two : Ideal.ofBits .f32 1073741824#32 = ((2 : ℝ) : EReal) := by
  simp [Ideal.ofBits, Ideal.ieee, -EReal.coe_mul]; norm_num

theorem ofBits_minus_two : Ideal.ofBits .f32 3221225472#32 = ((-2 : ℝ) : EReal) := by
  simp [Ideal.ofBits, Ideal.ieee, -EReal.coe_mul]; norm_num

theorem ofBits_count : Ideal.ofBits .f32 1191182336#32 = ((32768 : ℝ) : EReal) := by
  simp [Ideal.ofBits, Ideal.ieee, -EReal.coe_mul]; norm_num

theorem ofBits_inv_count : Ideal.ofBits .f32 939524096#32 = ((1 / 32768 : ℝ) : EReal) := by
  simp [Ideal.ofBits, Ideal.ieee, -EReal.coe_mul]; norm_num

theorem ofBits_infinity : Ideal.ofBits .f32 2139095040#32 = (⊤ : EReal) := by
  simp [Ideal.ofBits, Ideal.ieee]

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_coe (x y : ℝ) (h : y ≠ 0) : Ideal.div (x : EReal) (y : EReal) = ((x / y : ℝ) : EReal) := by
  rw [Ideal.div_coe h, ← EReal.coe_mul]; congr 1; ring

/-- The inverse of a nonzero real. -/
theorem one_div_coe (y : ℝ) (h : y ≠ 0) : Ideal.div 1 (y : EReal) = ((1 / y : ℝ) : EReal) := by
  rw [← EReal.coe_one]; exact div_coe 1 y h

theorem coe_max (x y : ℝ) : max (x : EReal) (y : EReal) = ((max x y : ℝ) : EReal) :=
  (EReal.coe_strictMono.monotone.map_max (a := x) (b := y)).symm

theorem coe_max_zero (x : ℝ) : max (x : EReal) 0 = ((max x 0 : ℝ) : EReal) := by
  rw [← EReal.coe_zero]; exact coe_max x 0

end Cert.Constants

end
-- ==== Proof.Nearest.lean ====
/- The four nearest points of a row, found by four rounds of "take the minimum, then raise what equals it to infinity". -/
module

public import Idealize.ShloMosaic.Lib.Pointwise

@[expose] public section

noncomputable section

namespace Cert.Nearest

/-- The minimum of a row, as the fold a reduction reads. -/
def least {n : ℕ} (f : Fin n → EReal) : EReal := Finset.univ.fold min ⊤ f

/-- A row with the entries below `v` raised to infinity. -/
def cut {n : ℕ} (d : Fin n → ℝ) (v : ℝ) : Fin n → EReal := fun s => if d s < v then ⊤ else (d s : EReal)

/-- A row with the entries equal to `m` raised to infinity. -/
def drop {n : ℕ} (f : Fin n → EReal) (m : EReal) : Fin n → EReal := fun s => if f s = m then ⊤ else f s

theorem least_cut {n : ℕ} (d : Fin n → ℝ) (p : Fin n) : least (cut d (d p)) = (d p : EReal) := by
  apply le_antisymm
  · refine (Finset.fold_min_le _).mpr (.inr ⟨p, Finset.mem_univ _, ?_⟩)
    simp [cut]
  · refine (Finset.le_fold_min _).mpr ⟨le_top, fun s _ => ?_⟩
    unfold cut
    split_ifs with h
    · exact le_top
    · exact EReal.coe_le_coe_iff.mpr (not_lt.mp h)

theorem drop_cut {n : ℕ} (d : Fin n → ℝ) (v v' : ℝ) (gap : ∀ s, d s ≤ v ↔ d s < v') :
    drop (cut d v) (v : EReal) = cut d v' := by
  funext s
  unfold drop cut
  rcases lt_trichotomy (d s) v with h | h | h
  · rw [if_pos h, if_neg (by simp), if_pos ((gap s).mp h.le)]
  · rw [if_neg h.not_lt, if_pos (by rw [h]), if_pos ((gap s).mp h.le)]
  · rw [if_neg (not_lt.mpr h.le), if_neg (by simpa using h.ne'), if_neg (fun h' => absurd ((gap s).mpr h') (not_le.mpr h))]

/-- `p` lists the four smallest entries of `d`, in increasing order and without ties. -/
structure First4 {n : ℕ} (d : Fin n → ℝ) (p : Fin 4 → Fin n) : Prop where
  mono : StrictMono fun k => d (p k)
  rest : ∀ s, (∃ k, p k = s) ∨ d (p 3) < d s

namespace First4

variable {n : ℕ} {d : Fin n → ℝ} {p : Fin 4 → Fin n} (h : First4 d p)
include h

theorem inj : Function.Injective p := fun a b e => h.mono.injective (by simp [e])

theorem le_iff (s : Fin n) : d s ≤ d (p 3) ↔ ∃ k, p k = s := by
  constructor
  · intro hs
    rcases h.rest s with e | e
    · exact e
    · exact absurd hs (not_le.mpr e)
  · rintro ⟨k, rfl⟩
    exact h.mono.monotone (Fin.le_last k)

theorem gap (a b : Fin 4) (hab : b.val = a.val + 1) (s : Fin n) : d s ≤ d (p a) ↔ d s < d (p b) := by
  have hlt : a < b := by rw [Fin.lt_def]; omega
  constructor
  · intro hs
    exact lt_of_le_of_lt hs (h.mono hlt)
  · intro hs
    rcases h.rest s with ⟨k, rfl⟩ | e
    · have hk : k < b := (h.mono.lt_iff_lt).mp hs
      exact h.mono.monotone (by rw [Fin.le_def]; rw [Fin.lt_def] at hk; omega)
    · exact absurd hs (not_lt.mpr ((h.mono.monotone (Fin.le_last b)).trans e.le))

theorem start : cut d (d (p 0)) = fun s => (d s : EReal) := by
  funext s
  unfold cut
  rw [if_neg]
  rcases h.rest s with ⟨k, rfl⟩ | e
  · exact not_lt.mpr (h.mono.monotone (Fin.zero_le k))
  · exact not_lt.mpr ((h.mono.monotone (Fin.zero_le (3 : Fin 4))).trans e.le)

theorem round0 : least (fun s => (d s : EReal)) = (d (p 0) : EReal) := by
  rw [← h.start]; exact least_cut d (p 0)

theorem raise0 : drop (fun s => (d s : EReal)) (d (p 0) : EReal) = cut d (d (p 1)) := by
  rw [← h.start]; exact drop_cut d _ _ (h.gap 0 1 rfl)

theorem raise1 : drop (cut d (d (p 1))) (d (p 1) : EReal) = cut d (d (p 2)) := drop_cut d _ _ (h.gap 1 2 rfl)

theorem raise2 : drop (cut d (d (p 2))) (d (p 2) : EReal) = cut d (d (p 3)) := drop_cut d _ _ (h.gap 2 3 rfl)

/-- A sum over the row that keeps only what is no larger than the fourth entry is the sum over the four. -/
theorem sum_le (F : Fin n → ℝ) : ∑ s, (if d s ≤ d (p 3) then F s else 0) = ∑ k, F (p k) := by
  classical
  rw [← Finset.sum_filter, ← Finset.sum_image (g := p) (s := Finset.univ) (f := F) (fun a _ b _ e => h.inj e)]
  refine Finset.sum_congr ?_ fun _ _ => rfl
  ext s
  simp only [Finset.mem_filter, Finset.mem_univ, true_and, Finset.mem_image]
  exact h.le_iff s

end First4

end Cert.Nearest

end
-- ==== Proof.Normalize.lean ====
/- Normalizing by batch statistics, over the reals: the two forms of the variance and of the affine map agree. -/
module

public import Idealize.ShloMosaic.Lib.Pointwise

@[expose] public section

noncomputable section

namespace Cert.Normalize

variable {ι κ : Type} [Fintype ι] [Fintype κ]

/-- The mean of a family over pairs, `c` standing for how many there are. -/
def mean (c : ℝ) (h : ι → κ → ℝ) : ℝ := (∑ b, ∑ n, h b n) / c

/-- The variance as the mean of the squares less the square of the mean. -/
def var (c : ℝ) (h : ι → κ → ℝ) : ℝ := (∑ b, ∑ n, h b n * h b n) / c - mean c h * mean c h

/-- The variance as the mean of the squared deviations. -/
theorem var_eq (c : ℝ) (h : ι → κ → ℝ) (hc : (Fintype.card ι : ℝ) * (Fintype.card κ : ℝ) = c) (h0 : c ≠ 0) :
    (∑ b, ∑ n, (h b n - mean c h) * (h b n - mean c h)) / c = var c h := by
  have hs : ∑ b, ∑ n, h b n = mean c h * c := by unfold mean; field_simp
  have e : ∀ b n, (h b n - mean c h) * (h b n - mean c h)
      = h b n * h b n - 2 * mean c h * h b n + mean c h * mean c h := fun b n => by ring
  have hsum : ∑ b, ∑ n, (h b n - mean c h) * (h b n - mean c h)
      = (∑ b, ∑ n, h b n * h b n) - 2 * mean c h * (∑ b, ∑ n, h b n) + c * (mean c h * mean c h) := by
    simp only [e, Finset.sum_add_distrib, Finset.sum_sub_distrib, ← Finset.mul_sum, Finset.sum_const, Finset.card_univ,
      nsmul_eq_mul]
    rw [← hc]; ring
  rw [hsum, hs]
  unfold var
  field_simp
  ring

theorem var_nonneg (c : ℝ) (h : ι → κ → ℝ) (hc : (Fintype.card ι : ℝ) * (Fintype.card κ : ℝ) = c) (h0 : 0 < c) :
    0 ≤ var c h := by
  rw [← var_eq c h hc h0.ne']
  exact div_nonneg (Finset.sum_nonneg fun b _ => Finset.sum_nonneg fun n _ => mul_self_nonneg _) h0.le

/-- The affine map: multiply by the scale and add the shift, against centre, divide and multiply. -/
theorem affine (x m g be r : ℝ) : x * (g * r) + (be - m * (g * r)) = g * ((x - m) * r) + be := by ring

/-- The same with a shift that may be infinite. -/
theorem affine_infinite (x m g r : ℝ) (be : EReal) :
    ((x * (g * r) : ℝ) : EReal) + (be - ((m * (g * r) : ℝ) : EReal)) = ((g * ((x - m) * r) : ℝ) : EReal) + be := by
  induction be using EReal.rec with
  | bot => simp
  | top => rw [EReal.top_sub_coe, EReal.coe_add_top, EReal.coe_add_top]
  | coe b =>
    rw [← EReal.coe_sub, ← EReal.coe_add, ← EReal.coe_add]
    congr 1; ring

end Cert.Normalize

end
-- ==== Proof.Model.lean ====
/- What both programs compute, over the reals: the four nearest neighbours blended by inverse distance, and two layers
   normalized by batch statistics. -/
module

public import proofs.«01_k».proof.Proof.Constants
public import proofs.«01_k».proof.Proof.Nearest
public import proofs.«01_k».proof.Proof.Normalize

@[expose] public section

noncomputable section

open Cert.Constants Cert.Nearest Cert.Normalize

namespace Cert.Model

/-- The squared distance of two points, by squares less twice the inner product. -/
def sqDist (a b : Fin 3 → ℝ) : ℝ := (∑ c, a c * a c + ∑ c, b c * b c) - 2 * ∑ c, a c * b c

theorem sqDist_nonneg (a b : Fin 3 → ℝ) : 0 ≤ sqDist a b := by
  have e : sqDist a b = ∑ c, (a c - b c) * (a c - b c) := by
    unfold sqDist
    simp only [Fin.sum_univ_three]; ring
  rw [e]
  exact Finset.sum_nonneg fun c _ => mul_self_nonneg _

/-- The inverse of a squared distance. -/
def recip (d : ℝ) : ℝ := 1 / (d + tiny)

theorem sqDist_add_ne (a b : Fin 3 → ℝ) : sqDist a b + tiny ≠ 0 := (add_pos_of_nonneg_of_pos (sqDist_nonneg a b) tiny_pos).ne'

theorem recip_pos (a b : Fin 3 → ℝ) : 0 < recip (sqDist a b) :=
  one_div_pos.mpr (add_pos_of_nonneg_of_pos (sqDist_nonneg a b) tiny_pos)

/-- The sum of the four inverse distances. -/
def total (d : Fin 4 → ℝ) : ℝ := ∑ k, recip (d k)

theorem total_pos (a : Fin 3 → ℝ) (b : Fin 4 → Fin 3 → ℝ) : 0 < total fun k => sqDist a (b k) :=
  Finset.sum_pos (fun k _ => recip_pos a (b k)) Finset.univ_nonempty

/-- The features of the four neighbours blended by inverse distance. -/
def blend (d q : Fin 4 → ℝ) : ℝ := ∑ k, q k * (recip (d k) / total d)

/-- The first and the second half of 512 channels. -/
def low (f : Fin 256) : Fin 512 := ⟨f.val, by omega⟩
def high (f : Fin 256) : Fin 512 := ⟨256 + f.val, by omega⟩

/-- The first layer at one channel and point: own features, then blended ones, then the bias. -/
def layer1 (w : Fin 512 → ℝ) (u v : Fin 256 → ℝ) (β : ℝ) : ℝ := (∑ f, w (low f) * u f + ∑ f, w (high f) * v f) + β

/-- The scale of a normalized channel. -/
def scale (g v : ℝ) : ℝ := g * (Real.sqrt (v + small))⁻¹

/-- The activation of a normalized channel. -/
def act (x m v g e : ℝ) : ℝ := max (g * ((x - m) * (Real.sqrt (v + small))⁻¹) + e) 0

/-- The second layer at one channel and point. -/
def layer2 (w a : Fin 512 → ℝ) (β : ℝ) : ℝ := ∑ f, w f * a f + β

/-- The result of a normalized channel, with a shift that may be infinite. -/
def last (x m v g : ℝ) (e : EReal) : EReal := max (((g * ((x - m) * (Real.sqrt (v + small))⁻¹) : ℝ) : EReal) + e) 0

/-- The twelve arguments. -/
structure Inputs where
  x1 : Fin 8 → Fin 3 → Fin 4096 → ℝ
  x2 : Fin 8 → Fin 3 → Fin 1024 → ℝ
  p1 : Fin 8 → Fin 4096 → Fin 256 → ℝ
  p2 : Fin 8 → Fin 256 → Fin 1024 → ℝ
  w1 : Fin 512 → Fin 512 → ℝ
  b1 : Fin 512 → ℝ
  g1 : Fin 512 → ℝ
  e1 : Fin 512 → ℝ
  w2 : Fin 512 → Fin 512 → ℝ
  b2 : Fin 512 → ℝ
  g2 : Fin 512 → ℝ
  e2 : Fin 512 → EReal

namespace Inputs

variable (I : Inputs) (pos : Fin 8 → Fin 4096 → Fin 4 → Fin 1024)

/-- The squared distances of a point of the first cloud. -/
def dist (b : Fin 8) (n : Fin 4096) (s : Fin 1024) : ℝ := sqDist (fun c => I.x1 b c n) (fun c => I.x2 b c s)

/-- `pos` lists the four nearest neighbours of every point. -/
def Near : Prop := ∀ b n, First4 (I.dist b n) (pos b n)

def interp (b : Fin 8) (n : Fin 4096) (f : Fin 256) : ℝ :=
  blend (fun k => I.dist b n (pos b n k)) (fun k => I.p2 b f (pos b n k))

def h1 (o : Fin 512) (b : Fin 8) (n : Fin 4096) : ℝ := layer1 (I.w1 o) (I.p1 b n) (I.interp pos b n) (I.b1 o)

def a1 (o : Fin 512) (b : Fin 8) (n : Fin 4096) : ℝ :=
  act (I.h1 pos o b n) (mean 32768 (I.h1 pos o)) (var 32768 (I.h1 pos o)) (I.g1 o) (I.e1 o)

def h2 (o : Fin 512) (b : Fin 8) (n : Fin 4096) : ℝ := layer2 (I.w2 o) (fun f => I.a1 pos f b n) (I.b2 o)

def result (o : Fin 512) (b : Fin 8) (n : Fin 4096) : EReal :=
  last (I.h2 pos o b n) (mean 32768 (I.h2 pos o)) (var 32768 (I.h2 pos o)) (I.g2 o) (I.e2 o)

end Inputs

/-- A variance over all the points, with what is added to it, is positive. -/
theorem var_add_pos (h : Fin 8 → Fin 4096 → ℝ) : 0 < var 32768 h + small :=
  add_pos_of_nonneg_of_pos (var_nonneg 32768 h (by norm_num [Fintype.card_fin]) (by norm_num)) small_pos

end Cert.Model

end
-- ==== Proof.Stage1.lean ====
/- The first stage's block, at an index: distances, the four rounds, the weights, the blend and the first layer. -/
module

public import proofs.«01_k».proof.Proof.Gen.KernelIdeal.Skeleton
public import proofs.«01_k».proof.Proof.Model

@[expose] public section

set_option maxRecDepth 16384

noncomputable section

open Idealize.ShloMosaic Idealize.ShloMosaic.TcCoe Idealize.SL.Sem
open Cert.KernelIdeal Cert.KernelIdeal.Gen Cert.Constants Cert.Nearest Cert.Normalize Cert.Model

namespace Cert.Stage1

section Distances

variable (v0 : Vec Ideal S1x1024x3 .f32) (v2 : Vec Ideal S1x3x1024 .f32)
variable (a : Fin 1024 → Fin 3 → ℝ) (b : Fin 3 → Fin 1024 → ℝ)
variable (ha : ∀ r c, v0 (ix3 (0 : Fin 1) r c) = ((a r c : ℝ) : EReal)) (hb : ∀ c s, v2 (ix3 (0 : Fin 1) c s) = ((b c s : ℝ) : EReal))

/-- The distances of a row. -/
abbrev row (a : Fin 1024 → Fin 3 → ℝ) (b : Fin 3 → Fin 1024 → ℝ) (r : Fin 1024) : Fin 1024 → ℝ :=
  fun s => sqDist (a r) (fun c => b c s)

include ha hb in
theorem pay5_at (r s : Fin 1024) : k0_pay5 (F := Ideal) v0 v2 (ix2 r s) = ((row a b r s : ℝ) : EReal) := by
  pointwise [k0_pay5]
  simp only [ha, hb, ofBits_two, ← EReal.coe_mul, coe_sum, ← EReal.coe_add, ← EReal.coe_sub]
  rfl

theorem pay6_at (r : Fin 1024) : k0_pay6 (F := Ideal) v0 v2 (ix2 r (0 : Fin 1)) = least fun s => k0_pay5 (F := Ideal) v0 v2 (ix2 r s) := by
  pointwise [k0_pay6]; rw [ofBits_infinity]; rfl

theorem pay7_at (r s : Fin 1024) : k0_pay7 (F := Ideal) v0 v2 (ix2 r s)
    = drop (fun s => k0_pay5 (F := Ideal) v0 v2 (ix2 r s)) (k0_pay6 (F := Ideal) v0 v2 (ix2 r (0 : Fin 1))) s := by
  pointwise [k0_pay7]; rw [ofBits_infinity]; rfl

theorem pay8_at (r : Fin 1024) : k0_pay8 (F := Ideal) v0 v2 (ix2 r (0 : Fin 1)) = least fun s => k0_pay7 (F := Ideal) v0 v2 (ix2 r s) := by
  pointwise [k0_pay8]; rw [ofBits_infinity]; rfl

theorem pay9_at (r s : Fin 1024) : k0_pay9 (F := Ideal) v0 v2 (ix2 r s)
    = drop (fun s => k0_pay7 (F := Ideal) v0 v2 (ix2 r s)) (k0_pay8 (F := Ideal) v0 v2 (ix2 r (0 : Fin 1))) s := by
  pointwise [k0_pay9]; rw [ofBits_infinity]; rfl

theorem pay10_at (r : Fin 1024) : k0_pay10 (F := Ideal) v0 v2 (ix2 r (0 : Fin 1)) = least fun s => k0_pay9 (F := Ideal) v0 v2 (ix2 r s) := by
  pointwise [k0_pay10]; rw [ofBits_infinity]; rfl

theorem pay11_at (r : Fin 1024) : k0_pay11 (F := Ideal) v0 v2 (ix2 r (0 : Fin 1))
    = least (drop (fun s => k0_pay9 (F := Ideal) v0 v2 (ix2 r s)) (k0_pay10 (F := Ideal) v0 v2 (ix2 r (0 : Fin 1)))) := by
  pointwise [k0_pay11]; rw [ofBits_infinity]; rfl

variable (p : Fin 1024 → Fin 4 → Fin 1024) (hp : ∀ r, First4 (row a b r) (p r))

include ha hb hp

theorem min0 (r : Fin 1024) : k0_pay6 (F := Ideal) v0 v2 (ix2 r (0 : Fin 1)) = ((row a b r (p r 0) : ℝ) : EReal) := by
  rw [pay6_at]; simp only [pay5_at v0 v2 a b ha hb]; exact (hp r).round0

theorem raised1 (r s : Fin 1024) : k0_pay7 (F := Ideal) v0 v2 (ix2 r s) = cut (row a b r) (row a b r (p r 1)) s := by
  rw [pay7_at, min0 v0 v2 a b ha hb p hp]; simp only [pay5_at v0 v2 a b ha hb]; exact congrFun (hp r).raise0 s

theorem min1 (r : Fin 1024) : k0_pay8 (F := Ideal) v0 v2 (ix2 r (0 : Fin 1)) = ((row a b r (p r 1) : ℝ) : EReal) := by
  rw [pay8_at]; simp only [raised1 v0 v2 a b ha hb p hp]; exact least_cut _ _

theorem raised2 (r s : Fin 1024) : k0_pay9 (F := Ideal) v0 v2 (ix2 r s) = cut (row a b r) (row a b r (p r 2)) s := by
  rw [pay9_at, min1 v0 v2 a b ha hb p hp]; simp only [raised1 v0 v2 a b ha hb p hp]; exact congrFun (hp r).raise1 s

theorem min2 (r : Fin 1024) : k0_pay10 (F := Ideal) v0 v2 (ix2 r (0 : Fin 1)) = ((row a b r (p r 2) : ℝ) : EReal) := by
  rw [pay10_at]; simp only [raised2 v0 v2 a b ha hb p hp]; exact least_cut _ _

theorem min3 (r : Fin 1024) : k0_pay11 (F := Ideal) v0 v2 (ix2 r (0 : Fin 1)) = ((row a b r (p r 3) : ℝ) : EReal) := by
  rw [pay11_at, min2 v0 v2 a b ha hb p hp]; simp only [raised2 v0 v2 a b ha hb p hp]
  rw [show (fun s => cut (row a b r) (row a b r (p r 2)) s) = cut (row a b r) (row a b r (p r 2)) from rfl, (hp r).raise2]
  exact least_cut _ _

theorem min0_add (r : Fin 1024) : k0_pay12 (F := Ideal) v0 v2 (ix2 r (0 : Fin 1)) = ((row a b r (p r 0) + tiny : ℝ) : EReal) := by
  pointwise [k0_pay12]
  rw [min0 v0 v2 a b ha hb p hp, ofBits_tiny, ← EReal.coe_add]

/-- The weights: the inverse distance over the sum of four, at the four nearest, and zero elsewhere. -/
theorem weight_at (one : Ideal .f32) (hone : one = (1 : EReal)) (r s : Fin 1024) :
    k0_pay13 (F := Ideal) (k0_pay5 v0 v2) (k0_pay8 v0 v2) (k0_pay10 v0 v2) (k0_pay11 v0 v2) (k0_pay12 v0 v2)
        one (ix2 r s)
      = ((if row a b r s ≤ row a b r (p r 3) then recip (row a b r s) / total fun k => row a b r (p r k) else 0 : ℝ) : EReal) := by
  have hd : ∀ s, row a b r s + tiny ≠ 0 := fun s => sqDist_add_ne _ _
  have ht : (total fun k => row a b r (p r k)) ≠ 0 := (total_pos (a r) fun k c => b c (p r k)).ne'
  pointwise [k0_pay13]
  rw [hone, pay5_at v0 v2 a b ha hb, min1 v0 v2 a b ha hb p hp, min2 v0 v2 a b ha hb p hp, min3 v0 v2 a b ha hb p hp,
    min0_add v0 v2 a b ha hb p hp, ofBits_tiny]
  simp only [← EReal.coe_add]
  rw [one_div_coe _ (hd _), one_div_coe _ (hd _), one_div_coe _ (hd _), one_div_coe _ (hd _), one_div_coe _ (hd _)]
  simp only [← EReal.coe_add]
  rw [show 1 / (row a b r (p r 0) + tiny) + 1 / (row a b r (p r 1) + tiny) + 1 / (row a b r (p r 2) + tiny)
      + 1 / (row a b r (p r 3) + tiny) = total fun k => row a b r (p r k) by
    unfold total recip; rw [Fin.sum_univ_four], one_div_coe _ ht]
  by_cases h : row a b r s ≤ row a b r (p r 3)
  · rw [if_pos h, if_pos (EReal.coe_le_coe_iff.mpr h), ← EReal.coe_mul]
    congr 1; unfold recip; ring
  · rw [if_neg h, if_neg (fun h' => h (EReal.coe_le_coe_iff.mp h')), zero_mul, EReal.coe_zero]

section Blend

variable (q q' : Vec Ideal S1x256x1024 .bf16) (u : Fin 256 → Fin 1024 → ℝ)
variable (hq : ∀ f s, q (ix3 (0 : Fin 1) f s) = ((u f s : ℝ) : EReal)) (hq' : ∀ f s, q' (ix3 (0 : Fin 1) f s) = (0 : EReal))

include hq

/-- The blended features, from the leading parts. -/
theorem blend_at (one : Ideal .f32) (hone : one = (1 : EReal)) (f : Fin 256) (r : Fin 1024) :
    k0_pay16 (F := Ideal) (k0_pay5 v0 v2) (k0_pay8 v0 v2) (k0_pay10 v0 v2) (k0_pay11 v0 v2) (k0_pay12 v0 v2)
        one q (ix2 f r)
      = ((blend (fun k => row a b r (p r k)) (fun k => u f (p r k)) : ℝ) : EReal) := by
  pointwise [k0_pay16, k0_pay15, k0_pay14]
  simp only [weight_at v0 v2 a b ha hb p hp one hone, hq, ← EReal.coe_mul, coe_sum, mul_ite, mul_zero]
  congr 1
  exact (hp r).sum_le fun s => u f s * (recip (row a b r s) / total fun k => row a b r (p r k))

include hq'

/-- The trailing parts are zero. -/
theorem blend_rest (one : Ideal .f32) (hone : one = (1 : EReal)) (f : Fin 256) (r : Fin 1024) :
    k0_pay17 (F := Ideal) (k0_pay5 v0 v2) (k0_pay8 v0 v2) (k0_pay10 v0 v2) (k0_pay11 v0 v2) (k0_pay12 v0 v2)
        one q q' (ix2 f r) = (0 : EReal) := by
  pointwise [k0_pay17, k0_pay15, k0_pay14]
  simp only [weight_at v0 v2 a b ha hb p hp one hone, hq, hq', ← EReal.coe_mul, ← EReal.coe_sub, coe_sum, sub_self, mul_zero, zero_mul,
    Finset.sum_const_zero, EReal.coe_zero, add_zero]

end Blend

end Distances

/-- The first layer over real blocks, the trailing parts being zero. -/
theorem layer_at (x y : FVec Ideal S256x1024 .f32) (u : Vec Ideal S1x1024x256 .f32) (w1 w2 w3 w4 : Vec Ideal S512x256 .bf16)
    (v : Vec Ideal S512x1 .f32) (X : Fin 256 → Fin 1024 → ℝ) (U : Fin 1024 → Fin 256 → ℝ) (W : Fin 512 → Fin 512 → ℝ) (β : Fin 512 → ℝ)
    (hx : ∀ f r, x (ix2 f r) = ((X f r : ℝ) : EReal)) (hy : ∀ f r, y (ix2 f r) = (0 : EReal))
    (hu : ∀ r f, u (ix3 (0 : Fin 1) r f) = ((U r f : ℝ) : EReal))
    (h1 : ∀ o f, w1 (ix2 o f) = ((W o (low f) : ℝ) : EReal)) (h2 : ∀ o f, w2 (ix2 o f) = (0 : EReal))
    (h3 : ∀ o f, w3 (ix2 o f) = ((W o (high f) : ℝ) : EReal)) (h4 : ∀ o f, w4 (ix2 o f) = (0 : EReal))
    (hv : ∀ o, v (ix2 o (0 : Fin 1)) = ((β o : ℝ) : EReal)) (o : Fin 512) (r : Fin 1024) :
    k0_pay18 (F := Ideal) x y u w1 w2 w3 w4 v (ix2 o r) = ((layer1 (W o) (U r) (fun f => X f r) (β o) : ℝ) : EReal) := by
  pointwise [k0_pay18]
  simp only [hx, hy, hu, h1, h2, h3, h4, hv, ← EReal.coe_mul, ← EReal.coe_sub, coe_sum, sub_self, mul_zero, zero_mul,
    Finset.sum_const_zero, EReal.coe_zero, add_zero, ← EReal.coe_add]
  rfl

/-- The block written out is the block, under a leading axis of one. -/
theorem block_at (x y : FVec Ideal S256x1024 .f32) (u : Vec Ideal S1x1024x256 .f32) (w1 w2 w3 w4 : Vec Ideal S512x256 .bf16)
    (v : Vec Ideal S512x1 .f32) (o : Fin 512) (r : Fin 1024) :
    k0_pay19 (F := Ideal) x y u w1 w2 w3 w4 v (ix3 (0 : Fin 1) o r) = k0_pay18 (F := Ideal) x y u w1 w2 w3 w4 v (ix2 o r) := by
  pointwise [k0_pay19]

theorem start_sum (o : Fin 512) : k0_pay1 (F := Ideal) (ix2 o (0 : Fin 1)) = (0 : EReal) := by
  pointwise [k0_pay1]

theorem start_squares (o : Fin 512) : k0_pay2 (F := Ideal) (ix2 o (0 : Fin 1)) = (0 : EReal) := by
  pointwise [k0_pay2]

theorem add_sum (x : FVec Ideal S512x1024 .f32) (acc : Vec Ideal S512x1 .f32) (o : Fin 512) :
    k0_pay3 (F := Ideal) x acc (ix2 o (0 : Fin 1)) = (acc (ix2 o (0 : Fin 1)) : EReal) + ∑ r : Fin 1024, (x (ix2 o r) : EReal) := by
  pointwise [k0_pay3]

theorem add_squares (x : FVec Ideal S512x1024 .f32) (acc : Vec Ideal S512x1 .f32) (o : Fin 512) :
    k0_pay4 (F := Ideal) x acc (ix2 o (0 : Fin 1)) = (acc (ix2 o (0 : Fin 1)) : EReal) + ∑ r : Fin 1024, (x (ix2 o r) * x (ix2 o r) : EReal) := by
  pointwise [k0_pay4]

end Cert.Stage1

end
-- ==== Proof.Region1.lean ====
/- What the first stage's region leaves in its three arrays: the first layer, and its sums over all the points. -/
module

public import proofs.«01_k».proof.Proof.Gen.KernelIdeal.Frame
public import proofs.«01_k».proof.Proof.Stage1
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Constants Cert.Nearest Cert.Normalize Cert.Model

namespace Cert.Region1

/-- The blocks each point reads and writes. -/
theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, 0, 0] ∧ win0_4.index t = ![t.val / 4, 0, 0]
    ∧ win0_5.index t = ![0, 0] ∧ win0_6.index t = ![0, 0] ∧ win0_7.index t = ![0, 0]
    ∧ win0_8.index t = ![t.val / 4, 0, t.val % 4] ∧ win0_9.index t = ![0, 0] ∧ win0_10.index t = ![0, 0] :=
  (by decide +kernel : ∀ t : Fin grid0.N, _)

variable (V : (c : Dev nD) → (b : Ref sig .tc) → Buf (Elt Ideal) ((c : Thread nD τ).loc b)) (c : Dev nD)
variable (I : Inputs) (pos : Fin 8 → Fin 4096 → Fin 4 → Fin 1024)

/-- What the region finds: the arguments, the trailing parts zero. -/
structure Entry : Prop where
  x1 : ∀ b n k, V c main_v0 (ix3 b n k) = ((I.x1 b k n : ℝ) : EReal)
  x2 : ∀ b k s, V c main_arg1 (ix3 b k s) = ((I.x2 b k s : ℝ) : EReal)
  p1 : ∀ b n f, V c main_arg2 (ix3 b n f) = ((I.p1 b n f : ℝ) : EReal)
  p2 : ∀ b f s, V c main_v1 (ix3 b f s) = ((I.p2 b f s : ℝ) : EReal)
  p2l : ∀ b f s, V c main_v4 (ix3 b f s) = (0 : EReal)
  w1 : ∀ o f, V c main_v5 (ix2 o f) = ((I.w1 o f : ℝ) : EReal)
  w1l : ∀ o f, V c main_v8 (ix2 o f) = (0 : EReal)
  b1 : ∀ o, V c main_v13 (ix2 o (0 : Fin 1)) = ((I.b1 o : ℝ) : EReal)

/-- The cloud a point of the grid works on, and the place of a block's row in it. -/
def cloud (t : Fin cfg0.N) : Fin 8 := ⟨t.val / 4, by have := lt_of_lt_of_eq t.isLt (show cfg0.N = 32 from N_0); omega⟩
def place (t : Fin cfg0.N) (r : Fin 1024) : Fin 4096 := ⟨t.val % 4 * 1024 + r.val, by omega⟩

/-- A sum over the grid and a block's rows is a sum over the clouds and their places. -/
theorem over_points (f : Fin 8 → Fin 4096 → ℝ) : ∑ t : Fin cfg0.N, ∑ r, f (cloud t) (place t r) = ∑ b, ∑ n, f b n :=
  Fin.sum_points_lanes_congr (g := f) 4 (fun _ _ _ _ => rfl) (show cfg0.N = 8 * 4 from N_0)

section Blocks

variable {V c I} (hE : Entry V c I) (t : Fin cfg0.N)
include hE

theorem b0 (r : Fin 1024) (k : Fin 3) : iblk0 V c 0 t (ix3 (0 : Fin 1) r k) = ((I.x1 (cloud t) k (place t r) : ℝ) : EReal) := by
  rw [← hE.x1]
  blk_point [iblk0, idx t, cloud, place]

theorem b1 (k : Fin 3) (s : Fin 1024) : iblk0 V c 1 t (ix3 (0 : Fin 1) k s) = ((I.x2 (cloud t) k s : ℝ) : EReal) := by
  rw [← hE.x2]
  blk_point [iblk0, idx t, cloud]

theorem b2 (r : Fin 1024) (f : Fin 256) : iblk0 V c 2 t (ix3 (0 : Fin 1) r f) = ((I.p1 (cloud t) (place t r) f : ℝ) : EReal) := by
  rw [← hE.p1]
  blk_point [iblk0, idx t, cloud, place]

theorem b3 (f : Fin 256) (s : Fin 1024) : iblk0 V c 3 t (ix3 (0 : Fin 1) f s) = ((I.p2 (cloud t) f s : ℝ) : EReal) := by
  rw [← hE.p2]
  blk_point [iblk0, idx t, cloud]

theorem b4 (f : Fin 256) (s : Fin 1024) : iblk0 V c 4 t (ix3 (0 : Fin 1) f s) = (0 : EReal) := by
  rw [← hE.p2l (cloud t) f s]
  blk_point [iblk0, idx t, cloud]

theorem b5 (o f : Fin 512) : iblk0 V c 5 t (ix2 o f) = ((I.w1 o f : ℝ) : EReal) := by
  rw [← hE.w1]
  blk_point [iblk0, idx t]

theorem b6 (o f : Fin 512) : iblk0 V c 6 t (ix2 o f) = (0 : EReal) := by
  rw [← hE.w1l o f]
  blk_point [iblk0, idx t]

theorem b7 (o : Fin 512) : iblk0 V c 7 t (ix2 o (0 : Fin 1)) = ((I.b1 o : ℝ) : EReal) := by
  rw [← hE.b1]
  blk_point [iblk0, idx t]

variable {pos}

/-- The first layer's block at a point of the grid. -/
theorem block (hN : I.Near pos) (one : Ideal .f32) (hone : one = (1 : EReal)) (w1 w2 w3 w4 : Vec Ideal S512x256 .bf16)
    (h1 : ∀ o f, w1 (ix2 o f) = ((I.w1 o (low f) : ℝ) : EReal)) (h2 : ∀ o f, w2 (ix2 o f) = (0 : EReal))
    (h3 : ∀ o f, w3 (ix2 o f) = ((I.w1 o (high f) : ℝ) : EReal)) (h4 : ∀ o f, w4 (ix2 o f) = (0 : EReal)) (o : Fin 512) (r : Fin 1024) :
    k0_pay18 (F := Ideal)
        (k0_pay16 (k0_pay5 (iblk0 V c 0 t) (iblk0 V c 1 t)) (k0_pay8 (iblk0 V c 0 t) (iblk0 V c 1 t)) (k0_pay10 (iblk0 V c 0 t) (iblk0 V c 1 t))
          (k0_pay11 (iblk0 V c 0 t) (iblk0 V c 1 t)) (k0_pay12 (iblk0 V c 0 t) (iblk0 V c 1 t)) one (iblk0 V c 3 t))
        (k0_pay17 (k0_pay5 (iblk0 V c 0 t) (iblk0 V c 1 t)) (k0_pay8 (iblk0 V c 0 t) (iblk0 V c 1 t)) (k0_pay10 (iblk0 V c 0 t) (iblk0 V c 1 t))
          (k0_pay11 (iblk0 V c 0 t) (iblk0 V c 1 t)) (k0_pay12 (iblk0 V c 0 t) (iblk0 V c 1 t)) one (iblk0 V c 3 t) (iblk0 V c 4 t))
        (iblk0 V c 2 t) w1 w2 w3 w4 (iblk0 V c 7 t) (ix2 o r)
      = ((I.h1 pos o (cloud t) (place t r) : ℝ) : EReal) := by
  have hp : ∀ r, First4 (Stage1.row (fun r k => I.x1 (cloud t) k (place t r)) (fun k s => I.x2 (cloud t) k s) r)
      (pos (cloud t) (place t r)) := fun r => hN (cloud t) (place t r)
  exact Stage1.layer_at _ _ _ w1 w2 w3 w4 _ (fun f r => I.interp pos (cloud t) (place t r) f) (fun r f => I.p1 (cloud t) (place t r) f)
    I.w1 I.b1
    (Stage1.blend_at _ _ _ _ (b0 hE t) (b1 hE t) _ hp _ _ (b3 hE t) one hone)
    (Stage1.blend_rest _ _ _ _ (b0 hE t) (b1 hE t) _ hp _ _ _ (b3 hE t) (b4 hE t) one hone)
    (b2 hE t) h1 h2 h3 h4 (b7 hE t) o r

omit hE in
theorem one_bits : (FloatOps.ofBits (F := Ideal) FTy.f32 1065353216#32) = (1 : EReal) := Ideal.ofBits_one_f32

theorem first (hN : I.Near pos) (o : Fin 512) (r : Fin 1024) :
    (outsAt0 V c t.val t.isLt).1 (ix3 (0 : Fin 1) o r) = ((I.h1 pos o (cloud t) (place t r) : ℝ) : EReal) := by
  by_cases h : t.val % 32 = 0
  · rw [outsAt0_A V c t h]; frame_out
    rw [Stage1.block_at, block hE t hN _ one_bits]
    · intro o f; pointwise; exact b5 hE t o (low f)
    · intro o f; pointwise; exact b6 hE t o (low f)
    · intro o f; pointwise; exact b5 hE t o (high f)
    · intro o f; pointwise; exact b6 hE t o (high f)
  · rw [outsAt0_B V c t h]; frame_out
    rw [Stage1.block_at, block hE t hN _ one_bits]
    · intro o f; pointwise; exact b5 hE t o (low f)
    · intro o f; pointwise; exact b6 hE t o (low f)
    · intro o f; pointwise; exact b5 hE t o (high f)
    · intro o f; pointwise; exact b6 hE t o (high f)

/-- The running sums: each point adds its block's rows. -/
theorem sum_step (hN : I.Near pos) (x : FVec Ideal S512x1024 .f32) (acc : Vec Ideal S512x1 .f32)
    (hx : ∀ o r, x (ix2 o r) = ((I.h1 pos o (cloud t) (place t r) : ℝ) : EReal)) (o : Fin 512) :
    k0_pay3 (F := Ideal) x acc (ix2 o (0 : Fin 1))
      = (acc (ix2 o (0 : Fin 1)) : EReal) + ((∑ r, I.h1 pos o (cloud t) (place t r) : ℝ) : EReal) := by
  rw [Stage1.add_sum]; simp only [hx, coe_sum]

theorem squares_step (hN : I.Near pos) (x : FVec Ideal S512x1024 .f32) (acc : Vec Ideal S512x1 .f32)
    (hx : ∀ o r, x (ix2 o r) = ((I.h1 pos o (cloud t) (place t r) : ℝ) : EReal)) (o : Fin 512) :
    k0_pay4 (F := Ideal) x acc (ix2 o (0 : Fin 1))
      = (acc (ix2 o (0 : Fin 1)) : EReal) + ((∑ r, I.h1 pos o (cloud t) (place t r) * I.h1 pos o (cloud t) (place t r) : ℝ) : EReal) := by
  rw [Stage1.add_squares]; simp only [hx, ← EReal.coe_mul, coe_sum]

omit t in
/-- The sums of the first layer over all the points. -/
theorem sums (hN : I.Near pos) (t : Fin cfg0.N) (ht : t.val + 1 = cfg0.N) (o : Fin 512) :
    (outsAt0 V c t.val t.isLt).2.1 (ix2 o (0 : Fin 1)) = ((∑ b, ∑ n, I.h1 pos o b n : ℝ) : EReal) := by
  have e := Pipeline.eq_sum_fin_of_reset_step_apply_last (M := EReal) (fun n h (o : Fin 512) => (outsAt0 V c n h).2.1 (ix2 o (0 : Fin 1)))
    32 (fun _ => 0) (fun t o => ((∑ r, I.h1 pos o (cloud t) (place t r) : ℝ) : EReal))
    (fun t h o => by
      rw [outsAt0_A V c t h]; frame_out
      rw [sum_step hE t hN _ _ (block hE t hN _ one_bits _ _ _ _ ?_ ?_ ?_ ?_), Stage1.start_sum]
      · intro o f; pointwise; exact b5 hE t o (low f)
      · intro o f; pointwise; exact b6 hE t o (low f)
      · intro o f; pointwise; exact b5 hE t o (high f)
      · intro o f; pointwise; exact b6 hE t o (high f)
      )
    (fun t h o => by
      rw [outsAt0_B V c t h]; frame_out
      rw [sum_step hE t hN _ _ (block hE t hN _ one_bits _ _ _ _ ?_ ?_ ?_ ?_)]
      · intro o f; pointwise; exact b5 hE t o (low f)
      · intro o f; pointwise; exact b6 hE t o (low f)
      · intro o f; pointwise; exact b5 hE t o (high f)
      · intro o f; pointwise; exact b6 hE t o (high f)
      )
    (le_of_eq N_0) t ht o
  rw [e, zero_add]
  rw [coe_sum]
  exact congrArg (fun x : ℝ => (x : EReal)) (over_points fun b n => I.h1 pos o b n)

omit t in
/-- The sums of its squares. -/
theorem squares (hN : I.Near pos) (t : Fin cfg0.N) (ht : t.val + 1 = cfg0.N) (o : Fin 512) :
    (outsAt0 V c t.val t.isLt).2.2 (ix2 o (0 : Fin 1)) = ((∑ b, ∑ n, I.h1 pos o b n * I.h1 pos o b n : ℝ) : EReal) := by
  have e := Pipeline.eq_sum_fin_of_reset_step_apply_last (M := EReal) (fun n h (o : Fin 512) => (outsAt0 V c n h).2.2 (ix2 o (0 : Fin 1)))
    32 (fun _ => 0) (fun t o => ((∑ r, I.h1 pos o (cloud t) (place t r) * I.h1 pos o (cloud t) (place t r) : ℝ) : EReal))
    (fun t h o => by
      rw [outsAt0_A V c t h]; frame_out
      rw [squares_step hE t hN _ _ (block hE t hN _ one_bits _ _ _ _ ?_ ?_ ?_ ?_), Stage1.start_squares]
      · intro o f; pointwise; exact b5 hE t o (low f)
      · intro o f; pointwise; exact b6 hE t o (low f)
      · intro o f; pointwise; exact b5 hE t o (high f)
      · intro o f; pointwise; exact b6 hE t o (high f)
      )
    (fun t h o => by
      rw [outsAt0_B V c t h]; frame_out
      rw [squares_step hE t hN _ _ (block hE t hN _ one_bits _ _ _ _ ?_ ?_ ?_ ?_)]
      · intro o f; pointwise; exact b5 hE t o (low f)
      · intro o f; pointwise; exact b6 hE t o (low f)
      · intro o f; pointwise; exact b5 hE t o (high f)
      · intro o f; pointwise; exact b6 hE t o (high f)
      )
    (le_of_eq N_0) t ht o
  rw [e, zero_add]
  rw [coe_sum]
  exact congrArg (fun x : ℝ => (x : EReal)) (over_points fun b n => I.h1 pos o b n * I.h1 pos o b n)

end Blocks

variable {V c I pos} (hE : Entry V c I) (hN : I.Near pos)
include hE hN

/-- The first layer's array. -/
theorem array : (dat0 V c).arrAt 8 cfg0.N = fun i : S8x512x4096.Idx => ((I.h1 pos (i 1) (i 0) (i 2) : ℝ) : EReal) := by
  refine (dat0 V c).arrAt_eq_of_covers 8 _ (by decide +kernel) fun t hf y => ?_
  blk_simp
  rw [after0_8]
  idx_vars y
  rw [show y0 = 0 from Subsingleton.elim _ _, first hE t hN]
  rw [show ((View.whole main_v14_0).slice (win0_8.rect t)).emb (ix3 (0 : Fin 1) y1 y2) 1 = y1 from Fin.ext (by blk_simp [idx t]),
    show ((View.whole main_v14_0).slice (win0_8.rect t)).emb (ix3 (0 : Fin 1) y1 y2) 0 = cloud t from Fin.ext (by blk_simp [idx t, cloud] <;> rfl),
    show ((View.whole main_v14_0).slice (win0_8.rect t)).emb (ix3 (0 : Fin 1) y1 y2) 2 = place t y2 from Fin.ext (by blk_simp [idx t, place])]

/-- Its sums. -/
theorem array_sums : (dat0 V c).arrAt 9 cfg0.N = fun i : S512x1.Idx => ((∑ b, ∑ n, I.h1 pos (i 0) b n : ℝ) : EReal) := by
  refine (dat0 V c).arrAt_eq_of_covers 9 _ (by decide +kernel) fun t hf y => ?_
  have ht : t.val + 1 = cfg0.N := by
    have h31 := (flush0_9 t).mp hf
    have h32 : t.val < 32 := lt_of_lt_of_eq t.isLt (show cfg0.N = 32 from N_0)
    rw [show cfg0.N = 32 from N_0]; omega
  blk_simp
  rw [after0_9]
  idx_vars y
  rw [show y1 = 0 from Subsingleton.elim _ _, sums hE hN t ht]
  rw [show ((View.whole main_v14_1).slice (win0_9.rect t)).emb (ix2 y0 0) 0 = y0 from Fin.ext (by blk_simp [idx t])]

/-- The sums of its squares. -/
theorem array_squares : (dat0 V c).arrAt 10 cfg0.N = fun i : S512x1.Idx => ((∑ b, ∑ n, I.h1 pos (i 0) b n * I.h1 pos (i 0) b n : ℝ) : EReal) := by
  refine (dat0 V c).arrAt_eq_of_covers 10 _ (by decide +kernel) fun t hf y => ?_
  have ht : t.val + 1 = cfg0.N := by
    have h31 := (flush0_10 t).mp hf
    have h32 : t.val < 32 := lt_of_lt_of_eq t.isLt (show cfg0.N = 32 from N_0)
    rw [show cfg0.N = 32 from N_0]; omega
  blk_simp
  rw [after0_10]
  idx_vars y
  rw [show y1 = 0 from Subsingleton.elim _ _, squares hE hN t ht]
  rw [show ((View.whole main_v14_2).slice (win0_10.rect t)).emb (ix2 y0 0) 0 = y0 from Fin.ext (by blk_simp [idx t])]

end Cert.Region1

end
-- ==== Proof.Stage2.lean ====
/- The second and third stages' blocks, at an index: normalization by the sums, the second layer and the result. -/
module

public import proofs.«01_k».proof.Proof.Gen.KernelIdeal.Skeleton
public import proofs.«01_k».proof.Proof.Model

@[expose] public section

set_option maxRecDepth 16384

noncomputable section

open Idealize.ShloMosaic Idealize.ShloMosaic.TcCoe Idealize.SL.Sem
open Cert.KernelIdeal Cert.KernelIdeal.Gen Cert.Constants Cert.Normalize Cert.Model

namespace Cert.Stage2

/-- The reciprocal square root of a positive real. -/
theorem rsqrt_pos (v : ℝ) (h : 0 < v) : Ideal.rsqrt (v : EReal) = (((Real.sqrt v)⁻¹ : ℝ) : EReal) := by
  rw [Ideal.rsqrt_coe, if_neg (not_lt.mpr h.le), if_neg h.ne']

/-- The mean and the variance, from the sums. -/
theorem mean_of (H : Fin 8 → Fin 4096 → ℝ) : (∑ b, ∑ n, H b n) * (1 / 32768) = mean 32768 H := by
  unfold mean; ring

theorem var_of (H : Fin 8 → Fin 4096 → ℝ) :
    (mean 32768 fun b n => H b n * H b n) - mean 32768 H * mean 32768 H = var 32768 H := rfl

section

variable (sum squares g e : Vec Ideal S512x1 .f32) (x : Vec Ideal S1x512x2048 .f32)
variable (H : Fin 512 → Fin 8 → Fin 4096 → ℝ) (G : Fin 512 → ℝ) (X : Fin 512 → Fin 2048 → ℝ)
variable (hs : ∀ o, sum (ix2 o (0 : Fin 1)) = ((∑ b, ∑ n, H o b n : ℝ) : EReal))
variable (hq : ∀ o, squares (ix2 o (0 : Fin 1)) = ((∑ b, ∑ n, H o b n * H o b n : ℝ) : EReal))
variable (hg : ∀ o, g (ix2 o (0 : Fin 1)) = ((G o : ℝ) : EReal))
variable (hx : ∀ o r, x (ix3 (0 : Fin 1) o r) = ((X o r : ℝ) : EReal))

include hs hq hg hx

/-- The activation of the first layer. -/
theorem act_at (E : Fin 512 → ℝ) (he : ∀ o, e (ix2 o (0 : Fin 1)) = ((E o : ℝ) : EReal)) (o : Fin 512) (r : Fin 2048) :
    k1_pay7 (F := Ideal) sum squares g e x (ix2 o r)
      = ((act (X o r) (mean 32768 (H o)) (var 32768 (H o)) (G o) (E o) : ℝ) : EReal) := by
  pointwise [k1_pay7]
  simp only [hs, hq, hg, hx, he, ofBits_inv_count, ofBits_small, ← EReal.coe_mul, mean_of, ← EReal.coe_sub, ← EReal.coe_add, var_of]
  rw [rsqrt_pos _ (var_add_pos _)]
  simp only [← EReal.coe_mul, ← EReal.coe_sub, ← EReal.coe_add, affine, coe_max_zero]
  rfl

/-- The result. -/
theorem last_at (E : Fin 512 → EReal) (he : ∀ o, e (ix2 o (0 : Fin 1)) = E o) (o : Fin 512) (r : Fin 2048) :
    k2_pay1 (F := Ideal) sum squares g e x (ix3 (0 : Fin 1) o r)
      = last (X o r) (mean 32768 (H o)) (var 32768 (H o)) (G o) (E o) := by
  pointwise [k2_pay1]
  simp only [hs, hq, hg, hx, he, ofBits_inv_count, ofBits_small, ← EReal.coe_mul, mean_of, ← EReal.coe_sub, ← EReal.coe_add, var_of]
  rw [rsqrt_pos _ (var_add_pos _)]
  simp only [← EReal.coe_mul, affine_infinite]
  rfl

end

/-- The second layer's block at the parts it is made of. -/
theorem layer_at (sum squares g e : Vec Ideal S512x1 .f32) (x : Vec Ideal S1x512x2048 .f32) (wh wl : Vec Ideal S512x512 .bf16)
    (v : Vec Ideal S512x1 .f32) (A : Fin 512 → Fin 2048 → ℝ) (W : Fin 512 → Fin 512 → ℝ) (β : Fin 512 → ℝ)
    (ha : ∀ o r, k1_pay7 (F := Ideal) sum squares g e x (ix2 o r) = ((A o r : ℝ) : EReal))
    (hw : ∀ o f, wh (ix2 o f) = ((W o f : ℝ) : EReal)) (hl : ∀ o f, wl (ix2 o f) = (0 : EReal))
    (hv : ∀ o, v (ix2 o (0 : Fin 1)) = ((β o : ℝ) : EReal)) (o : Fin 512) (r : Fin 2048) :
    k1_pay1 (F := Ideal) (k1_pay8 sum squares g e x) (k1_pay9 sum squares g e x) (k1_pay10 wh) (k1_pay11 wl)
        (k1_pay12 sum squares g e x wh) (constant S512x2048 FTy.f32 0#32) v (ix2 o r)
      = ((layer2 (W o) (fun f => A f r) (β o) : ℝ) : EReal) := by
  pointwise [k1_pay1, k1_pay8, k1_pay9, k1_pay10, k1_pay11, k1_pay12]
  simp only [ha, hw, hl, hv, ← EReal.coe_mul, ← EReal.coe_sub, coe_sum, sub_self, mul_zero, zero_mul,
    Finset.sum_const_zero, EReal.coe_zero, add_zero, ← EReal.coe_add]
  rfl

section

variable (v28 v31 : FVec Ideal S512x2048 .bf16) (v33 v35 : FVec Ideal S512x512 .bf16) (v36 z : FVec Ideal S512x2048 .f32) (v41 : Vec Ideal S512x1 .f32)

/-- The block written out is the block, under a leading axis of one. -/
theorem block_at (o : Fin 512) (r : Fin 2048) :
    k1_pay2 (F := Ideal) v28 v31 v33 v35 v36 z v41 (ix3 (0 : Fin 1) o r) = k1_pay1 (F := Ideal) v28 v31 v33 v35 v36 z v41 (ix2 o r) := by
  pointwise [k1_pay2]

theorem start_sum (o : Fin 512) : k1_pay3 (F := Ideal) (ix2 o (0 : Fin 1)) = (0 : EReal) := by
  pointwise [k1_pay3]

theorem start_squares (o : Fin 512) : k1_pay4 (F := Ideal) (ix2 o (0 : Fin 1)) = (0 : EReal) := by
  pointwise [k1_pay4]

theorem add_sum (acc : Vec Ideal S512x1 .f32) (o : Fin 512) :
    k1_pay5 (F := Ideal) v28 v31 v33 v35 v36 z v41 acc (ix2 o (0 : Fin 1))
      = (acc (ix2 o (0 : Fin 1)) : EReal) + ∑ r : Fin 2048, (k1_pay1 (F := Ideal) v28 v31 v33 v35 v36 z v41 (ix2 o r) : EReal) := by
  pointwise [k1_pay5]

theorem add_squares (acc : Vec Ideal S512x1 .f32) (o : Fin 512) :
    k1_pay6 (F := Ideal) v28 v31 v33 v35 v36 z v41 acc (ix2 o (0 : Fin 1))
      = (acc (ix2 o (0 : Fin 1)) : EReal) + ∑ r : Fin 2048, (k1_pay1 (F := Ideal) v28 v31 v33 v35 v36 z v41 (ix2 o r)
          * k1_pay1 (F := Ideal) v28 v31 v33 v35 v36 z v41 (ix2 o r) : EReal) := by
  pointwise [k1_pay6]

end

end Cert.Stage2

end
-- ==== Proof.Region2.lean ====
/- What the second stage's region leaves in its three arrays: the second layer, and its sums over all the points. -/
module

public import proofs.«01_k».proof.Proof.Gen.KernelIdeal.Frame
public import proofs.«01_k».proof.Proof.Stage2
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Constants Cert.Nearest Cert.Normalize Cert.Model

namespace Cert.Region2

/-- The blocks each point reads and writes. -/
theorem idx : ∀ t : Fin cfg1.N, win1_0.index t = ![t.val / 2, 0, t.val % 2] ∧ win1_1.index t = ![0, 0]
    ∧ win1_2.index t = ![0, 0] ∧ win1_3.index t = ![0, 0] ∧ win1_4.index t = ![0, 0]
    ∧ win1_5.index t = ![0, 0] ∧ win1_6.index t = ![0, 0] ∧ win1_7.index t = ![0, 0]
    ∧ win1_8.index t = ![t.val / 2, 0, t.val % 2] ∧ win1_9.index t = ![0, 0] ∧ win1_10.index t = ![0, 0] :=
  (by decide +kernel : ∀ t : Fin grid1.N, _)

variable (V : (c : Dev nD) → (b : Ref sig .tc) → Buf (Elt Ideal) ((c : Thread nD τ).loc b)) (c : Dev nD)
variable (I : Inputs) (pos : Fin 8 → Fin 4096 → Fin 4 → Fin 1024)

/-- What the region finds: the first layer and its sums, and the arguments. -/
structure Entry : Prop where
  h1 : ∀ b o n, V c main_v14_0 (ix3 b o n) = ((I.h1 pos o b n : ℝ) : EReal)
  sums : ∀ o, V c main_v14_1 (ix2 o (0 : Fin 1)) = ((∑ b, ∑ n, I.h1 pos o b n : ℝ) : EReal)
  squares : ∀ o, V c main_v14_2 (ix2 o (0 : Fin 1)) = ((∑ b, ∑ n, I.h1 pos o b n * I.h1 pos o b n : ℝ) : EReal)
  g1 : ∀ o, V c main_v15 (ix2 o (0 : Fin 1)) = ((I.g1 o : ℝ) : EReal)
  e1 : ∀ o, V c main_v16 (ix2 o (0 : Fin 1)) = ((I.e1 o : ℝ) : EReal)
  w2 : ∀ o f, V c main_v9 (ix2 o f) = ((I.w2 o f : ℝ) : EReal)
  w2l : ∀ o f, V c main_v12 (ix2 o f) = (0 : EReal)
  b2 : ∀ o, V c main_v17 (ix2 o (0 : Fin 1)) = ((I.b2 o : ℝ) : EReal)

/-- The cloud a point of the grid works on, and the place of a block's column in it. -/
def cloud (t : Fin cfg1.N) : Fin 8 := ⟨t.val / 2, by have := lt_of_lt_of_eq t.isLt (show cfg1.N = 16 from N_1); omega⟩
def place (t : Fin cfg1.N) (r : Fin 2048) : Fin 4096 := ⟨t.val % 2 * 2048 + r.val, by omega⟩

/-- A sum over the grid and a block's columns is a sum over the clouds and their places. -/
theorem over_points (f : Fin 8 → Fin 4096 → ℝ) : ∑ t : Fin cfg1.N, ∑ r, f (cloud t) (place t r) = ∑ b, ∑ n, f b n :=
  Fin.sum_points_lanes_congr (g := f) 2 (fun _ _ _ _ => rfl) (show cfg1.N = 8 * 2 from N_1)

variable {V c I pos} (hE : Entry V c I pos) (t : Fin cfg1.N)
include hE

section Blocks

theorem b0 (o : Fin 512) (r : Fin 2048) : iblk1 V c 0 t (ix3 (0 : Fin 1) o r) = ((I.h1 pos o (cloud t) (place t r) : ℝ) : EReal) := by
  rw [← hE.h1]
  blk_point [iblk1, idx t, cloud, place]

theorem b1 (o : Fin 512) : iblk1 V c 1 t (ix2 o (0 : Fin 1)) = ((∑ b, ∑ n, I.h1 pos o b n : ℝ) : EReal) := by
  rw [← hE.sums]
  blk_point [iblk1, idx t]

theorem b2 (o : Fin 512) : iblk1 V c 2 t (ix2 o (0 : Fin 1)) = ((∑ b, ∑ n, I.h1 pos o b n * I.h1 pos o b n : ℝ) : EReal) := by
  rw [← hE.squares]
  blk_point [iblk1, idx t]

theorem b3 (o : Fin 512) : iblk1 V c 3 t (ix2 o (0 : Fin 1)) = ((I.g1 o : ℝ) : EReal) := by
  rw [← hE.g1]
  blk_point [iblk1, idx t]

theorem b4 (o : Fin 512) : iblk1 V c 4 t (ix2 o (0 : Fin 1)) = ((I.e1 o : ℝ) : EReal) := by
  rw [← hE.e1]
  blk_point [iblk1, idx t]

theorem b5 (o f : Fin 512) : iblk1 V c 5 t (ix2 o f) = ((I.w2 o f : ℝ) : EReal) := by
  rw [← hE.w2]
  blk_point [iblk1, idx t]

theorem b6 (o f : Fin 512) : iblk1 V c 6 t (ix2 o f) = (0 : EReal) := by
  rw [← hE.w2l o f]
  blk_point [iblk1, idx t]

theorem b7 (o : Fin 512) : iblk1 V c 7 t (ix2 o (0 : Fin 1)) = ((I.b2 o : ℝ) : EReal) := by
  rw [← hE.b2]
  blk_point [iblk1, idx t]

/-- The second layer's block at a point of the grid. -/
theorem block (o : Fin 512) (r : Fin 2048) :
    k1_pay1 (F := Ideal) (k1_pay8 (iblk1 V c 1 t) (iblk1 V c 2 t) (iblk1 V c 3 t) (iblk1 V c 4 t) (iblk1 V c 0 t)) (k1_pay9 (iblk1 V c 1 t) (iblk1 V c 2 t) (iblk1 V c 3 t) (iblk1 V c 4 t) (iblk1 V c 0 t))
        (k1_pay10 (iblk1 V c 5 t)) (k1_pay11 (iblk1 V c 6 t)) (k1_pay12 (iblk1 V c 1 t) (iblk1 V c 2 t) (iblk1 V c 3 t) (iblk1 V c 4 t) (iblk1 V c 0 t) (iblk1 V c 5 t))
        (constant S512x2048 FTy.f32 0#32) (iblk1 V c 7 t) (ix2 o r)
      = ((I.h2 pos o (cloud t) (place t r) : ℝ) : EReal) :=
  Stage2.layer_at _ _ _ _ _ _ _ _ (fun f r => I.a1 pos f (cloud t) (place t r)) I.w2 I.b2
    (Stage2.act_at _ _ _ _ _ (I.h1 pos) I.g1 (fun o r => I.h1 pos o (cloud t) (place t r)) (b1 hE t) (b2 hE t) (b3 hE t) (b0 hE t)
      I.e1 (b4 hE t))
    (b5 hE t) (b6 hE t) (b7 hE t) o r

theorem first (o : Fin 512) (r : Fin 2048) :
    (outsAt1 V c t.val t.isLt).1 (ix3 (0 : Fin 1) o r) = ((I.h2 pos o (cloud t) (place t r) : ℝ) : EReal) := by
  by_cases h : t.val % 16 = 0
  · rw [outsAt1_A V c t h]; frame_out
    rw [Stage2.block_at]; exact block hE t o r
  · rw [outsAt1_B V c t h]; frame_out
    rw [Stage2.block_at]; exact block hE t o r

/-- The running sums: each point adds its block's columns. -/
theorem sum_step (acc : Vec Ideal S512x1 .f32) (o : Fin 512) :
    k1_pay5 (F := Ideal) (k1_pay8 (iblk1 V c 1 t) (iblk1 V c 2 t) (iblk1 V c 3 t) (iblk1 V c 4 t) (iblk1 V c 0 t)) (k1_pay9 (iblk1 V c 1 t) (iblk1 V c 2 t) (iblk1 V c 3 t) (iblk1 V c 4 t) (iblk1 V c 0 t))
        (k1_pay10 (iblk1 V c 5 t)) (k1_pay11 (iblk1 V c 6 t)) (k1_pay12 (iblk1 V c 1 t) (iblk1 V c 2 t) (iblk1 V c 3 t) (iblk1 V c 4 t) (iblk1 V c 0 t) (iblk1 V c 5 t))
        (constant S512x2048 FTy.f32 0#32) (iblk1 V c 7 t) acc (ix2 o (0 : Fin 1))
      = (acc (ix2 o (0 : Fin 1)) : EReal) + ((∑ r, I.h2 pos o (cloud t) (place t r) : ℝ) : EReal) := by
  rw [Stage2.add_sum]; simp only [block hE t, coe_sum]

theorem squares_step (acc : Vec Ideal S512x1 .f32) (o : Fin 512) :
    k1_pay6 (F := Ideal) (k1_pay8 (iblk1 V c 1 t) (iblk1 V c 2 t) (iblk1 V c 3 t) (iblk1 V c 4 t) (iblk1 V c 0 t)) (k1_pay9 (iblk1 V c 1 t) (iblk1 V c 2 t) (iblk1 V c 3 t) (iblk1 V c 4 t) (iblk1 V c 0 t))
        (k1_pay10 (iblk1 V c 5 t)) (k1_pay11 (iblk1 V c 6 t)) (k1_pay12 (iblk1 V c 1 t) (iblk1 V c 2 t) (iblk1 V c 3 t) (iblk1 V c 4 t) (iblk1 V c 0 t) (iblk1 V c 5 t))
        (constant S512x2048 FTy.f32 0#32) (iblk1 V c 7 t) acc (ix2 o (0 : Fin 1))
      = (acc (ix2 o (0 : Fin 1)) : EReal) + ((∑ r, I.h2 pos o (cloud t) (place t r) * I.h2 pos o (cloud t) (place t r) : ℝ) : EReal) := by
  rw [Stage2.add_squares]; simp only [block hE t, ← EReal.coe_mul, coe_sum]

omit t in
/-- The sums of the second layer over all the points. -/
theorem sums (t : Fin cfg1.N) (ht : t.val + 1 = cfg1.N) (o : Fin 512) :
    (outsAt1 V c t.val t.isLt).2.1 (ix2 o (0 : Fin 1)) = ((∑ b, ∑ n, I.h2 pos o b n : ℝ) : EReal) := by
  have e := Pipeline.eq_sum_fin_of_reset_step_apply_last (M := EReal) (fun n h (o : Fin 512) => (outsAt1 V c n h).2.1 (ix2 o (0 : Fin 1)))
    16 (fun _ => 0) (fun t o => ((∑ r, I.h2 pos o (cloud t) (place t r) : ℝ) : EReal))
    (fun t h o => by
      rw [outsAt1_A V c t h]; frame_out
      rw [sum_step hE t, Stage2.start_sum])
    (fun t h o => by
      rw [outsAt1_B V c t h]; frame_out
      rw [sum_step hE t])
    (le_of_eq N_1) t ht o
  rw [e, zero_add]
  rw [coe_sum]
  exact congrArg (fun x : ℝ => (x : EReal)) (over_points fun b n => I.h2 pos o b n)

omit t in
/-- The sums of its squares. -/
theorem squares (t : Fin cfg1.N) (ht : t.val + 1 = cfg1.N) (o : Fin 512) :
    (outsAt1 V c t.val t.isLt).2.2 (ix2 o (0 : Fin 1)) = ((∑ b, ∑ n, I.h2 pos o b n * I.h2 pos o b n : ℝ) : EReal) := by
  have e := Pipeline.eq_sum_fin_of_reset_step_apply_last (M := EReal) (fun n h (o : Fin 512) => (outsAt1 V c n h).2.2 (ix2 o (0 : Fin 1)))
    16 (fun _ => 0) (fun t o => ((∑ r, I.h2 pos o (cloud t) (place t r) * I.h2 pos o (cloud t) (place t r) : ℝ) : EReal))
    (fun t h o => by
      rw [outsAt1_A V c t h]; frame_out
      rw [squares_step hE t, Stage2.start_squares])
    (fun t h o => by
      rw [outsAt1_B V c t h]; frame_out
      rw [squares_step hE t])
    (le_of_eq N_1) t ht o
  rw [e, zero_add]
  rw [coe_sum]
  exact congrArg (fun x : ℝ => (x : EReal)) (over_points fun b n => I.h2 pos o b n * I.h2 pos o b n)

end Blocks

omit t in
/-- The second layer's array. -/
theorem array : (dat1 V c).arrAt 8 cfg1.N = fun i : S8x512x4096.Idx => ((I.h2 pos (i 1) (i 0) (i 2) : ℝ) : EReal) := by
  refine (dat1 V c).arrAt_eq_of_covers 8 _ (by decide +kernel) fun t hf y => ?_
  blk_simp
  rw [after1_8]
  idx_vars y
  rw [show y0 = 0 from Subsingleton.elim _ _, first hE t]
  rw [show ((View.whole main_v18_0).slice (win1_8.rect t)).emb (ix3 (0 : Fin 1) y1 y2) 1 = y1 from Fin.ext (by blk_simp [idx t]),
    show ((View.whole main_v18_0).slice (win1_8.rect t)).emb (ix3 (0 : Fin 1) y1 y2) 0 = cloud t from Fin.ext (by blk_simp [idx t, cloud] <;> rfl),
    show ((View.whole main_v18_0).slice (win1_8.rect t)).emb (ix3 (0 : Fin 1) y1 y2) 2 = place t y2 from Fin.ext (by blk_simp [idx t, place])]

omit t in
/-- Its sums. -/
theorem array_sums : (dat1 V c).arrAt 9 cfg1.N = fun i : S512x1.Idx => ((∑ b, ∑ n, I.h2 pos (i 0) b n : ℝ) : EReal) := by
  refine (dat1 V c).arrAt_eq_of_covers 9 _ (by decide +kernel) fun t hf y => ?_
  have ht : t.val + 1 = cfg1.N := by
    have h15 := (flush1_9 t).mp hf
    have h16 : t.val < 16 := lt_of_lt_of_eq t.isLt (show cfg1.N = 16 from N_1)
    rw [show cfg1.N = 16 from N_1]; omega
  blk_simp
  rw [after1_9]
  idx_vars y
  rw [show y1 = 0 from Subsingleton.elim _ _, sums hE t ht]
  rw [show ((View.whole main_v18_1).slice (win1_9.rect t)).emb (ix2 y0 0) 0 = y0 from Fin.ext (by blk_simp [idx t])]

omit t in
/-- The sums of its squares. -/
theorem array_squares : (dat1 V c).arrAt 10 cfg1.N = fun i : S512x1.Idx => ((∑ b, ∑ n, I.h2 pos (i 0) b n * I.h2 pos (i 0) b n : ℝ) : EReal) := by
  refine (dat1 V c).arrAt_eq_of_covers 10 _ (by decide +kernel) fun t hf y => ?_
  have ht : t.val + 1 = cfg1.N := by
    have h15 := (flush1_10 t).mp hf
    have h16 : t.val < 16 := lt_of_lt_of_eq t.isLt (show cfg1.N = 16 from N_1)
    rw [show cfg1.N = 16 from N_1]; omega
  blk_simp
  rw [after1_10]
  idx_vars y
  rw [show y1 = 0 from Subsingleton.elim _ _, squares hE t ht]
  rw [show ((View.whole main_v18_2).slice (win1_10.rect t)).emb (ix2 y0 0) 0 = y0 from Fin.ext (by blk_simp [idx t])]

end Cert.Region2

end
-- ==== Proof.Region3.lean ====
/- What the third stage's region leaves: the result. -/
module

public import proofs.«01_k».proof.Proof.Gen.KernelIdeal.Frame
public import proofs.«01_k».proof.Proof.Stage2
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Constants Cert.Nearest Cert.Normalize Cert.Model

namespace Cert.Region3

/-- The blocks each point reads and writes. -/
theorem idx : ∀ t : Fin cfg2.N, win2_0.index t = ![t.val / 2, 0, t.val % 2] ∧ win2_1.index t = ![0, 0]
    ∧ win2_2.index t = ![0, 0] ∧ win2_3.index t = ![0, 0] ∧ win2_4.index t = ![0, 0]
    ∧ win2_5.index t = ![t.val / 2, 0, t.val % 2] :=
  (by decide +kernel : ∀ t : Fin grid2.N, _)

variable (V : (c : Dev nD) → (b : Ref sig .tc) → Buf (Elt Ideal) ((c : Thread nD τ).loc b)) (c : Dev nD)
variable (I : Inputs) (pos : Fin 8 → Fin 4096 → Fin 4 → Fin 1024)

/-- What the region finds: the second layer and its sums, and the last two arguments. -/
structure Entry : Prop where
  h2 : ∀ b o n, V c main_v18_0 (ix3 b o n) = ((I.h2 pos o b n : ℝ) : EReal)
  sums : ∀ o, V c main_v18_1 (ix2 o (0 : Fin 1)) = ((∑ b, ∑ n, I.h2 pos o b n : ℝ) : EReal)
  squares : ∀ o, V c main_v18_2 (ix2 o (0 : Fin 1)) = ((∑ b, ∑ n, I.h2 pos o b n * I.h2 pos o b n : ℝ) : EReal)
  g2 : ∀ o, V c main_v19 (ix2 o (0 : Fin 1)) = ((I.g2 o : ℝ) : EReal)
  e2 : ∀ o, V c main_v20 (ix2 o (0 : Fin 1)) = I.e2 o

/-- The cloud a point of the grid works on, and the place of a block's column in it. -/
def cloud (t : Fin cfg2.N) : Fin 8 := ⟨t.val / 2, by have := lt_of_lt_of_eq t.isLt (show cfg2.N = 16 from N_2); omega⟩
def place (t : Fin cfg2.N) (r : Fin 2048) : Fin 4096 := ⟨t.val % 2 * 2048 + r.val, by omega⟩

variable {V c I pos} (hE : Entry V c I pos) (t : Fin cfg2.N)
include hE

theorem b0 (o : Fin 512) (r : Fin 2048) : iblk2 V c 0 t (ix3 (0 : Fin 1) o r) = ((I.h2 pos o (cloud t) (place t r) : ℝ) : EReal) := by
  rw [← hE.h2]
  blk_point [iblk2, idx t, cloud, place]

theorem b1 (o : Fin 512) : iblk2 V c 1 t (ix2 o (0 : Fin 1)) = ((∑ b, ∑ n, I.h2 pos o b n : ℝ) : EReal) := by
  rw [← hE.sums]
  blk_point [iblk2, idx t]

theorem b2 (o : Fin 512) : iblk2 V c 2 t (ix2 o (0 : Fin 1)) = ((∑ b, ∑ n, I.h2 pos o b n * I.h2 pos o b n : ℝ) : EReal) := by
  rw [← hE.squares]
  blk_point [iblk2, idx t]

theorem b3 (o : Fin 512) : iblk2 V c 3 t (ix2 o (0 : Fin 1)) = ((I.g2 o : ℝ) : EReal) := by
  rw [← hE.g2]
  blk_point [iblk2, idx t]

theorem b4 (o : Fin 512) : iblk2 V c 4 t (ix2 o (0 : Fin 1)) = I.e2 o := by
  rw [← hE.e2]
  blk_point [iblk2, idx t]

omit t in
/-- The result's array. -/
theorem array : (dat2 V c).arrAt 5 cfg2.N = fun i : S8x512x4096.Idx => I.result pos (i 1) (i 0) (i 2) := by
  refine (dat2 V c).arrAt_eq_of_covers 5 _ (by decide +kernel) fun t hf y => ?_
  blk_simp
  rw [after2_5]; frame_out
  idx_vars y
  rw [show y0 = 0 from Subsingleton.elim _ _, Stage2.last_at _ _ _ _ _ (I.h2 pos) I.g2 (fun o r => I.h2 pos o (cloud t) (place t r))
    (b1 hE t) (b2 hE t) (b3 hE t) (b0 hE t) I.e2 (b4 hE t)]
  rw [show ((View.whole main_v21).slice (win2_5.rect t)).emb (ix3 (0 : Fin 1) y1 y2) 1 = y1 from Fin.ext (by blk_simp [idx t]),
    show ((View.whole main_v21).slice (win2_5.rect t)).emb (ix3 (0 : Fin 1) y1 y2) 0 = cloud t from Fin.ext (by blk_simp [idx t, cloud] <;> rfl),
    show ((View.whole main_v21).slice (win2_5.rect t)).emb (ix3 (0 : Fin 1) y1 y2) 2 = place t y2 from Fin.ext (by blk_simp [idx t, place])]
  rfl

end Cert.Region3

end
-- ==== Proof.KernelRun.lean ====
/- The kernel's run: what each region finds, and the result it leaves, over real arguments. -/
module

public import proofs.«01_k».proof.Proof.Region1
public import proofs.«01_k».proof.Proof.Region2
public import proofs.«01_k».proof.Proof.Region3
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Constants Cert.Nearest Cert.Normalize Cert.Model

namespace Cert.KernelRun

variable (m : (ℓ : Loc nD τ sig) → Buf (Elt Ideal) ℓ) (ρ : Dev nD → PrngReg) (c : Dev nD) (I : Inputs)

/-- The arguments in memory are `I`'s. -/
structure Args : Prop where
  x1 : ∀ b k n, m ((c : Thread nD τ).loc main_arg0) (ix3 b k n) = ((I.x1 b k n : ℝ) : EReal)
  x2 : ∀ b k s, m ((c : Thread nD τ).loc main_arg1) (ix3 b k s) = ((I.x2 b k s : ℝ) : EReal)
  p1 : ∀ b n f, m ((c : Thread nD τ).loc main_arg2) (ix3 b n f) = ((I.p1 b n f : ℝ) : EReal)
  p2 : ∀ b f s, m ((c : Thread nD τ).loc main_arg3) (ix3 b f s) = ((I.p2 b f s : ℝ) : EReal)
  w1 : ∀ o f, m ((c : Thread nD τ).loc main_arg4) (ix2 o f) = ((I.w1 o f : ℝ) : EReal)
  b1 : ∀ o, m ((c : Thread nD τ).loc main_arg5) (ix1 o) = ((I.b1 o : ℝ) : EReal)
  g1 : ∀ o, m ((c : Thread nD τ).loc main_arg6) (ix1 o) = ((I.g1 o : ℝ) : EReal)
  e1 : ∀ o, m ((c : Thread nD τ).loc main_arg7) (ix1 o) = ((I.e1 o : ℝ) : EReal)
  w2 : ∀ o f, m ((c : Thread nD τ).loc main_arg8) (ix2 o f) = ((I.w2 o f : ℝ) : EReal)
  b2 : ∀ o, m ((c : Thread nD τ).loc main_arg9) (ix1 o) = ((I.b2 o : ℝ) : EReal)
  g2 : ∀ o, m ((c : Thread nD τ).loc main_arg10) (ix1 o) = ((I.g2 o : ℝ) : EReal)
  e2 : ∀ o, m ((c : Thread nD τ).loc main_arg11) (ix1 o) = I.e2 o

variable {m c I} (hA : Args m c I)
include hA

/-- What the first region finds. -/
theorem entry1 : Region1.Entry (V1 m ρ) c I where
  x1 b n k := by rw [← hA.x1]; dsimp only [V1, W1]; after_results; pointwise
  x2 b k s := by rw [← hA.x2]; exact congrFun (W1_args m ρ c main_arg1 (by decide)) _
  p1 b n f := by rw [← hA.p1]; exact congrFun (W1_args m ρ c main_arg2 (by decide)) _
  p2 b f s := by rw [← hA.p2]; dsimp only [V1, W1]; after_results; pointwise
  p2l b f s := by
    dsimp only [V1, W1]; after_results; pointwise
    rw [show W0 m ρ c (Proc.tc.devRef main_arg3) (ix3 b f s) = _ from hA.p2 b f s, ← EReal.coe_sub, sub_self, EReal.coe_zero]
  w1 o f := by rw [← hA.w1]; dsimp only [V1, W1]; after_results; pointwise
  w1l o f := by
    dsimp only [V1, W1]; after_results; pointwise
    rw [show W0 m ρ c (Proc.tc.devRef main_arg4) (ix2 o f) = _ from hA.w1 o f, ← EReal.coe_sub, sub_self, EReal.coe_zero]
  b1 o := by rw [← hA.b1]; dsimp only [V1, W1]; after_results; pointwise

variable {pos : Fin 8 → Fin 4096 → Fin 4 → Fin 1024} (hN : I.Near pos)
include hN

/-- What the second region finds. -/
theorem entry2 : Region2.Entry (V3 m ρ) c I pos where
  h1 b o n := by
    refine (congrFun ((W3_of m ρ c main_v14_0 (by decide)).trans (W2_arr m ρ c 8)) (ix3 b o n)).trans ?_
    exact congrFun (Region1.array (entry1 ρ hA) hN) (ix3 b o n)
  sums o := by
    refine (congrFun ((W3_of m ρ c main_v14_1 (by decide)).trans (W2_arr m ρ c 9)) (ix2 o 0)).trans ?_
    exact congrFun (Region1.array_sums (entry1 ρ hA) hN) (ix2 o 0)
  squares o := by
    refine (congrFun ((W3_of m ρ c main_v14_2 (by decide)).trans (W2_arr m ρ c 10)) (ix2 o 0)).trans ?_
    exact congrFun (Region1.array_squares (entry1 ρ hA) hN) (ix2 o 0)
  g1 o := by
    rw [← hA.g1, ← congrFun (W2_args m ρ c main_arg6 (by decide)) (ix1 o)]
    dsimp only [V3, W3]; after_results; pointwise
  e1 o := by
    rw [← hA.e1, ← congrFun (W2_args m ρ c main_arg7 (by decide)) (ix1 o)]
    dsimp only [V3, W3]; after_results; pointwise
  w2 o f := by
    refine (congrFun ((W3_of m ρ c main_v9 (by decide)).trans (W2_of_ne m ρ c main_v9 (by decide))) (ix2 o f)).trans ?_
    rw [← hA.w2]; dsimp only [W1]; after_results; pointwise
  w2l o f := by
    refine (congrFun ((W3_of m ρ c main_v12 (by decide)).trans (W2_of_ne m ρ c main_v12 (by decide))) (ix2 o f)).trans ?_
    dsimp only [W1]; after_results; pointwise
    rw [show W0 m ρ c (Proc.tc.devRef main_arg8) (ix2 o f) = _ from hA.w2 o f, ← EReal.coe_sub, sub_self, EReal.coe_zero]
  b2 o := by
    rw [← hA.b2, ← congrFun (W2_args m ρ c main_arg9 (by decide)) (ix1 o)]
    dsimp only [V3, W3]; after_results; pointwise

/-- What the third region finds. -/
theorem entry3 : Region3.Entry (V5 m ρ) c I pos where
  h2 b o n := by
    refine (congrFun ((W5_of m ρ c main_v18_0 (by decide)).trans (W4_arr m ρ c 8)) (ix3 b o n)).trans ?_
    exact congrFun (Region2.array (entry2 ρ hA hN)) (ix3 b o n)
  sums o := by
    refine (congrFun ((W5_of m ρ c main_v18_1 (by decide)).trans (W4_arr m ρ c 9)) (ix2 o 0)).trans ?_
    exact congrFun (Region2.array_sums (entry2 ρ hA hN)) (ix2 o 0)
  squares o := by
    refine (congrFun ((W5_of m ρ c main_v18_2 (by decide)).trans (W4_arr m ρ c 10)) (ix2 o 0)).trans ?_
    exact congrFun (Region2.array_squares (entry2 ρ hA hN)) (ix2 o 0)
  g2 o := by
    rw [← hA.g2, ← congrFun (W4_args m ρ c main_arg10 (by decide)) (ix1 o)]
    dsimp only [V5, W5]; after_results; pointwise
  e2 o := by
    rw [← hA.e2, ← congrFun (W4_args m ρ c main_arg11 (by decide)) (ix1 o)]
    dsimp only [V5, W5]; after_results; pointwise

/-- The result the run leaves. -/
theorem value : W6 m ρ c main_v21 = fun i : S8x512x4096.Idx => I.result pos (i 1) (i 0) (i 2) :=
  (W6_arr m ρ c 5).trans (Region3.array (entry3 ρ hA hN))

omit hA hN
variable (m)

set_option backward.isDefEq.respectTransparency.types false in
/-- The run: every execution ends with the result at the last boundary's contents and the arguments as launched. -/
theorem run : θ_run defs (onTc (τ := τ) (main (F := Ideal))) ⟨m, fun _ => 0, ρ⟩ (fun r => ∀ c : Dev nD,
      r.2.mem ((c.tc : Thread nD τ).loc main_v21) = W6 m ρ c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v21 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelRun

end
-- ==== Proof.Neighbours.lean ====
/- A row's positions in the order of its values: what a top-k of the negated row reads, and the four nearest. -/
module

public import proofs.«01_k».proof.Proof.Nearest
public import Idealize.ShloMosaic.Lib.SortFacts

@[expose] public section

set_option maxRecDepth 16384

noncomputable section

open Idealize.ShloMosaic Cert.Nearest

namespace Cert.Neighbours

/-- The positions of a row, least value first, equal values by position. -/
def order {n : ℕ} (d : Fin n → ℝ) : Fin n → Fin n := sortedFrom fun s s' => decide (d s < d s')

theorem order_surjective {n : ℕ} (d : Fin n → ℝ) : Function.Surjective (order d) := sortedFrom_surjective _

theorem order_le {n : ℕ} (d : Fin n → ℝ) {i j : Fin n} (h : i ≤ j) : d (order d i) ≤ d (order d j) := by
  rcases h.eq_or_lt with rfl | h
  · exact le_rfl
  have := sortedFrom_noInversion (fun s s' => decide (d s < d s')) (fun s s' => decide (d s < d s'))
    (fun a b h => by simp only [decide_eq_true_eq, decide_eq_false_iff_not, not_lt] at h ⊢; exact h.le)
    (fun a b h => h)
    (fun a b c h h' => by simp only [decide_eq_false_iff_not, not_lt] at h h' ⊢; exact h'.trans h) i j h
  exact not_lt.mp (of_decide_eq_false this)

/-- The first four positions. -/
def front (d : Fin 1024 → ℝ) (k : Fin 4) : Fin 1024 := order d ⟨k.val, by omega⟩

/-- If the first five values strictly increase, the first four positions are the four nearest. -/
theorem front_first4 (d : Fin 1024 → ℝ)
    (h : ∀ k : Fin 4, d (order d ⟨k.val, by omega⟩) < d (order d ⟨k.val + 1, by omega⟩)) : First4 d (front d) where
  mono := by
    refine Fin.strictMono_iff_lt_succ.mpr fun k => ?_
    exact h k.castSucc
  rest := fun s => by
    obtain ⟨j, rfl⟩ := order_surjective d s
    by_cases hj : j.val < 4
    · exact .inl ⟨⟨j.val, hj⟩, rfl⟩
    · exact .inr ((h 3).trans_le (order_le d (Fin.mk_le_of_le_val (by show 3 + 1 ≤ j.val; omega))))

theorem greater_iff (a b : ℝ) :
    (FloatOps.cmpfTotal (F := Ideal) (φ := .f32) .gt ((-a : ℝ) : EReal) ((-b : ℝ) : EReal) == 1#1) = decide (a < b) := by
  rw [show FloatOps.cmpfTotal (F := Ideal) (φ := .f32) .gt ((-a : ℝ) : EReal) ((-b : ℝ) : EReal)
    = BitVec.ofBool (decide (((-b : ℝ) : EReal) < ((-a : ℝ) : EReal))) from rfl]
  have e : (((-b : ℝ) : EReal) < ((-a : ℝ) : EReal)) ↔ a < b := by rw [EReal.coe_lt_coe_iff, neg_lt_neg_iff]
  by_cases h : a < b
  · simp [e.mpr h, h]
  · simp [mt e.mp h, h]

section TopK

variable {K : ℕ} (hK : K ≤ 1024) (x : (⟨3, ![8, 4096, 1024]⟩ : Shape).Idx → Ideal .f32) (d : Fin 8 → Fin 4096 → Fin 1024 → ℝ)
  (hx : ∀ b n s, x (ix3 b n s) = ((-(d b n s) : ℝ) : EReal))
  (hs : (⟨3, ![8, 4096, 1024]⟩ : Shape).Slices (fun _ => 0) ⟨3, ![8, 4096, K]⟩) (b : Fin 8) (n : Fin 4096) (k : Fin K)

theorem along (b : Fin 8) (n : Fin 4096) (k s : Fin 1024) :
    Shape.Idx.along (s := ⟨3, ![8, 4096, 1024]⟩) (ix3 b n k) (2 : Fin 3) s = ix3 b n s := by
  funext a
  match a with
  | ⟨0, _⟩ => rfl
  | ⟨1, _⟩ => rfl
  | ⟨2, _⟩ => rfl

include hx in
theorem perm_eq (b : Fin 8) (n : Fin 4096) (k : Fin 1024) :
    (sortedFrom fun s s' => FloatOps.cmpfTotal (F := Ideal) (φ := .f32) .gt
      (x (Shape.Idx.along (s := ⟨3, ![8, 4096, 1024]⟩) (ix3 b n k) (2 : Fin 3) s))
      (x (Shape.Idx.along (s := ⟨3, ![8, 4096, 1024]⟩) (ix3 b n k) (2 : Fin 3) s')) == 1#1) = order (d b n) := by
  have e : ∀ s s' : Fin 1024, (FloatOps.cmpfTotal (F := Ideal) (φ := .f32) .gt
      (x (Shape.Idx.along (s := ⟨3, ![8, 4096, 1024]⟩) (ix3 b n k) (2 : Fin 3) s))
      (x (Shape.Idx.along (s := ⟨3, ![8, 4096, 1024]⟩) (ix3 b n k) (2 : Fin 3) s')) == 1#1)
      = decide (d b n s < d b n s') := fun s s' => by
    rw [along b n k s, along b n k s', hx, hx, greater_iff]
  exact congrArg (sortedFrom (n := 1024)) (funext fun s => funext fun s' => e s s')

/-- The operand's index a result's is read at. -/
abbrev cut : (⟨3, ![8, 4096, 1024]⟩ : Shape).Idx := fun a =>
  ⟨0 + ((ix3 b n k : (⟨3, ![8, 4096, K]⟩ : Shape).Idx) (a.cast hs.1.symm)).val,
    Nat.lt_of_lt_of_le (Nat.add_lt_add_left ((ix3 b n k : (⟨3, ![8, 4096, K]⟩ : Shape).Idx) _).isLt _) (hs.2 a)⟩

theorem cut_eq : cut hs b n k = ix3 b n (⟨k.val, by omega⟩ : Fin 1024) := by
  funext a
  match a with
  | ⟨0, _⟩ => exact Fin.ext (Nat.zero_add _)
  | ⟨1, _⟩ => exact Fin.ext (Nat.zero_add _)
  | ⟨2, _⟩ => exact Fin.ext (Nat.zero_add _)

include hx in
theorem topK_value : (Host.topK ⟨3, ![8, 4096, K]⟩ 2 (FloatOps.cmpfTotal .gt) x hs).1 (ix3 b n k)
    = ((-(d b n (order (d b n) ⟨k.val, by omega⟩)) : ℝ) : EReal) := by
  show x ((cut hs b n k).along (2 : Fin 3) (sortedFrom (fun s s' => FloatOps.cmpfTotal (F := Ideal) (φ := .f32) .gt
      (x ((cut hs b n k).along (2 : Fin 3) s)) (x ((cut hs b n k).along (2 : Fin 3) s')) == 1#1) (cut hs b n k (2 : Fin 3)))) = _
  rw [cut_eq hK]
  refine (congrArg (fun p : Fin 1024 => x (Shape.Idx.along (s := ⟨3, ![8, 4096, 1024]⟩) (ix3 b n ⟨k.val, by omega⟩) (2 : Fin 3) p))
    (congrFun (perm_eq x d hx b n _) _)).trans ?_
  beta_reduce
  rw [along, hx]
  rfl

include hx in
theorem topK_index : (Host.topK ⟨3, ![8, 4096, K]⟩ 2 (FloatOps.cmpfTotal .gt) x hs).2 (ix3 b n k)
    = BitVec.ofNat 32 (order (d b n) ⟨k.val, by omega⟩).val := by
  show BitVec.ofNat 32 ((cut hs b n k).along (2 : Fin 3) (sortedFrom (fun s s' => FloatOps.cmpfTotal (F := Ideal) (φ := .f32) .gt
      (x ((cut hs b n k).along (2 : Fin 3) s)) (x ((cut hs b n k).along (2 : Fin 3) s')) == 1#1) (cut hs b n k (2 : Fin 3))) (2 : Fin 3)).val = _
  rw [cut_eq hK]
  refine (congrArg (fun p : Fin 1024 => BitVec.ofNat 32
    (Shape.Idx.along (s := ⟨3, ![8, 4096, 1024]⟩) (ix3 b n ⟨k.val, by omega⟩) (2 : Fin 3) p (2 : Fin 3)).val)
    (congrFun (perm_eq x d hx b n _) _)).trans ?_
  beta_reduce
  rw [along]
  rfl

end TopK

end Cert.Neighbours

end
-- ==== Proof.Reference1.lean ====
/- The reference up to its first layer, over real arguments: distances, the four nearest, the blend, the layer. -/
module

public import proofs.«01_k».proof.Proof.Gen.ReferenceIdeal.Read
public import proofs.«01_k».proof.Proof.Neighbours
public import proofs.«01_k».proof.Proof.Model

@[expose] public section

set_option maxRecDepth 16384

noncomputable section

open Idealize.ShloMosaic Cert.Constants Cert.Nearest Cert.Normalize Cert.Model Cert.Neighbours
open Cert.ReferenceIdeal Cert.ReferenceIdeal.Gen Cert.ReferenceIdeal.Read

namespace Cert.Reference

variable (I : Inputs) (x0 : FVec Ideal S8x3x4096 .f32) (x1 : FVec Ideal S8x3x1024 .f32) (x2 : FVec Ideal S8x4096x256 .f32)
  (x3 : FVec Ideal S8x256x1024 .f32)
  (hx0 : ∀ b k n, x0 (ix3 b k n) = ((I.x1 b k n : ℝ) : EReal))
  (hx1 : ∀ b k s, x1 (ix3 b k s) = ((I.x2 b k s : ℝ) : EReal))
  (hx2 : ∀ b n f, x2 (ix3 b n f) = ((I.p1 b n f : ℝ) : EReal))
  (hx3 : ∀ b f s, x3 (ix3 b f s) = ((I.p2 b f s : ℝ) : EReal))

include hx0 hx1 in
theorem negated (b : Fin 8) (n : Fin 4096) (s : Fin 1024) :
    val_main_v16 (F := Ideal) x0 x1 (ix3 b n s) = ((-(I.dist b n s) : ℝ) : EReal) := by
  pointwise [val_main_v16, val_main_v15, val_main_v14, val_main_v13, val_main_v12, val_main_v11, val_main_v10, val_main_v9,
    val_main_v8, val_main_v7, val_main_v6, val_main_v5, val_main_v4, val_main_v3, val_main_v1, val_main_v0, val_main_cst,
    val_main_cst_0, val_main_cst_1]
  simp only [ofBits_minus_two, hx0, hx1, ← EReal.coe_mul, coe_sum, ← EReal.coe_add, ← EReal.coe_neg]
  refine congrArg (fun r : ℝ => (r : EReal)) ?_
  unfold Inputs.dist sqDist
  ring

/-- The four nearest neighbours of a point. -/
def near (b : Fin 8) (n : Fin 4096) (k : Fin 4) : Fin 1024 := front (I.dist b n) k

include hx0 hx1 in
theorem values (b : Fin 8) (n : Fin 4096) (k : Fin 4) :
    val_main_values (F := Ideal) x0 x1 (ix3 b n k) = ((-(I.dist b n (near I b n k)) : ℝ) : EReal) := by
  have hK : 4 ≤ 1024 := by norm_num
  unfold val_main_values near front
  have := topK_value (K := 4) hK (val_main_v16 (F := Ideal) x0 x1) I.dist (negated I x0 x1 hx0 hx1)
    sliceFits_S8x4096x1024_S8x4096x4 b n k
  exact this

include hx0 hx1 in
theorem indices (b : Fin 8) (n : Fin 4096) (k : Fin 4) :
    val_main_indices (F := Ideal) x0 x1 (ix3 b n k) = BitVec.ofNat 32 (near I b n k).val := by
  have hK : 4 ≤ 1024 := by norm_num
  unfold val_main_indices near front
  have := topK_index (K := 4) hK (val_main_v16 (F := Ideal) x0 x1) I.dist (negated I x0 x1 hx0 hx1)
    sliceFits_S8x4096x1024_S8x4096x4 b n k
  exact this

include hx0 hx1 in
theorem inverse (b : Fin 8) (n : Fin 4096) (k : Fin 4) :
    val_main_v21 (F := Ideal) x0 x1 (ix3 b n k) = ((recip (I.dist b n (near I b n k)) : ℝ) : EReal) := by
  pointwise [val_main_v21, val_main_v20, val_main_cst_3, val_main_v19, val_main_v18, val_main_cst_2, val_main_v17]
  rw [values I x0 x1 hx0 hx1, ← EReal.coe_neg, neg_neg, ofBits_tiny, ← EReal.coe_add]
  exact one_div_coe _ (sqDist_add_ne _ _)

include hx0 hx1 in
theorem weight (b : Fin 8) (n : Fin 4096) (k : Fin 4) :
    val_main_v25 (F := Ideal) x0 x1 (ix3 b n k)
      = ((recip (I.dist b n (near I b n k)) / total (fun k => I.dist b n (near I b n k)) : ℝ) : EReal) := by
  pointwise [val_main_v25, val_main_v24, val_main_v23, val_main_v22, val_main_cst_4]
  simp only [inverse I x0 x1 hx0 hx1, coe_sum]
  exact div_coe _ _ (total_pos _ _).ne'

/-- A word that is a position is not negative: the wrap of negative indices leaves it. -/
theorem wrapped (p : Fin 1024) : Scalar.select (IntOp.cmpi .slt (BitVec.ofNat 32 p.val) 0#32)
    (IntOp.addi (BitVec.ofNat 32 p.val) 1024#32) (BitVec.ofNat 32 p.val) = BitVec.ofNat 32 p.val := by
  have h : (BitVec.ofNat 32 p.val).slt 0#32 = false := by
    rw [BitVec.slt_zero_eq_msb, BitVec.msb_eq_false_iff_two_mul_lt, BitVec.toNat_ofNat]
    have := p.isLt
    omega
  simp [Scalar.select, IntOp.cmpi, h]

include hx0 hx1 in
theorem word (b : Fin 8) (n : Fin 4096) (k : Fin 4) :
    val_main_v31 (F := Ideal) x0 x1 (ix4 b n k (0 : Fin 1)) = BitVec.ofNat 32 (near I b n k).val := by
  pointwise [val_main_v31, val_main_v30, val_main_v29, val_main_v28, val_main_v27, val_main_v26, val_main_c, val_main_c_5]
  rw [indices I x0 x1 hx0 hx1]
  exact wrapped (near I b n k)

/-- A position is its own clamp. -/
theorem clamped (p : Fin 1024) : min (BitVec.ofNat 32 p.val).toInt.toNat (1024 - 1) = p.val := by
  have := p.isLt
  rw [BitVec.toInt_eq_toNat_of_lt (by rw [BitVec.toNat_ofNat]; omega), BitVec.toNat_ofNat]
  omega

/-- The gather reads, at a batch, point, neighbour and feature, the row its index word names. -/
theorem gathered {α : Type} (y : S8x1024x256.Idx → α) (w : IVec S8x4096x4x1 32) (b : Fin 8) (n : Fin 4096) (k : Fin 4)
    (f : Fin 256) (p : Fin 1024) (hw : w (ix4 b n k (0 : Fin 1)) = BitVec.ofNat 32 p.val) :
    Host.gather gather_S8x1024x256_S8x4096x4x1_S8x4096x4x256_3_1_0_0_1_3_11256 y w (ix4 b n k f) = y (ix3 b p f) := by
  unfold Host.gather
  refine congrArg y (funext fun a => Fin.ext ?_)
  set d := gather_S8x1024x256_S8x4096x4x1_S8x4096x4x256_3_1_0_0_1_3_11256 with hd
  show d.start (ix4 b n k f) w a + d.batchCoord (ix4 b n k f) a + d.offCoord (ix4 b n k f) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin S8x1024x256.rank) ∈ d.operandBatchingDims from List.mem_singleton.mpr rfl)]
    rfl
  | ⟨1, _⟩ =>
    rw [GatherDims.batchCoord_eq_zero _ _ _ (fun h => by simp [hd, gather_S8x1024x256_S8x4096x4x1_S8x4096x4x256_3_1_0_0_1_3_11256] at h),
      GatherDims.offCoord_eq_zero _ _ _ (fun h => ((GatherDims.mem_sKept _ _).mp h).1 (List.mem_singleton.mpr rfl))]
    simp only [Nat.add_zero]
    unfold GatherDims.start
    have hm : (⟨1, by decide⟩ : Fin S8x1024x256.rank) ∈ d.startIndexMap := List.mem_singleton.mpr rfl
    rw [dif_pos hm]
    have hi : d.siIdx (ix4 b n k f) ⟨List.idxOf (⟨1, by decide⟩ : Fin S8x1024x256.rank) d.startIndexMap,
        List.idxOf_lt_length_iff.2 hm⟩ = ix4 b n k (0 : Fin 1) := by
      funext c; refine Fin.ext ?_
      match c with
      | ⟨0, _⟩ => rfl
      | ⟨1, _⟩ => rfl
      | ⟨2, _⟩ => rfl
      | ⟨3, _⟩ => rfl
    rw [hi, hw]
    exact clamped p
  | ⟨2, _⟩ =>
    rw [GatherDims.batchCoord_eq_zero _ _ _ (fun h => by simp [hd, gather_S8x1024x256_S8x4096x4x1_S8x4096x4x256_3_1_0_0_1_3_11256] at h)]
    unfold GatherDims.start
    rw [dif_neg (fun h => by simp [hd, gather_S8x1024x256_S8x4096x4x1_S8x4096x4x256_3_1_0_0_1_3_11256] at h)]
    simp only [Nat.zero_add]
    rfl

include hx0 hx1 hx3 in
theorem neighbour (b : Fin 8) (n : Fin 4096) (k : Fin 4) (f : Fin 256) :
    val_main_v32 (F := Ideal) x0 x1 x3 (ix4 b n k f) = ((I.p2 b f (near I b n k) : ℝ) : EReal) := by
  unfold val_main_v32
  rw [gathered _ _ b n k f _ (word I x0 x1 hx0 hx1 b n k)]
  pointwise [val_main_v2]
  exact hx3 _ _ _

include hx0 hx1 hx3 in
theorem blended (b : Fin 8) (n : Fin 4096) (f : Fin 256) :
    val_main_v36 (F := Ideal) x0 x1 x3 (ix3 b n f) = ((I.interp (near I) b n f : ℝ) : EReal) := by
  pointwise [val_main_v36, val_main_v35, val_main_v34, val_main_v33, val_main_cst_6]
  simp only [neighbour I x0 x1 x3 hx0 hx1 hx3, weight I x0 x1 hx0 hx1, ← EReal.coe_mul, coe_sum]
  rfl

variable (x4 : FVec Ideal S512x512 .f32) (x5 : FVec Ideal S512 .f32)
  (hx4 : ∀ o f, x4 (ix2 o f) = ((I.w1 o f : ℝ) : EReal)) (hx5 : ∀ o, x5 (ix1 o) = ((I.b1 o : ℝ) : EReal))

include hx0 hx1 hx2 hx3 hx4 hx5 in
theorem first (b : Fin 8) (o : Fin 512) (n : Fin 4096) :
    val_main_v43 (F := Ideal) x0 x1 x2 x3 x4 x5 (ix3 b o n) = ((I.h1 (near I) o b n : ℝ) : EReal) := by
  pointwise [val_main_v43, val_main_v42, val_main_v41, val_main_v40, val_main_v39, val_main_v38, val_main_v37]
  simp only [blended I x0 x1 x3 hx0 hx1 hx3, hx2, hx4, hx5, ← EReal.coe_mul, coe_sum, ← EReal.coe_add]
  refine congrArg (fun r : ℝ => (r : EReal)) ?_
  unfold Inputs.h1 layer1
  refine congrArg (· + I.b1 o) (congrArg₂ (· + ·) ?_ ?_)
  · exact Finset.sum_congr rfl fun f _ => mul_comm _ _
  · exact Finset.sum_congr rfl fun f _ => mul_comm _ _

end Cert.Reference

end
-- ==== Proof.Reference2.lean ====
/- The reference's normalization of one layer by its batch statistics, over a real array, and its two layers. -/
module

public import proofs.«01_k».proof.Proof.Reference1

@[expose] public section

set_option maxRecDepth 16384

noncomputable section

open Idealize.ShloMosaic Cert.Constants Cert.Nearest Cert.Normalize Cert.Model Cert.Neighbours
open Cert.ReferenceIdeal Cert.ReferenceIdeal.Gen Cert.ReferenceIdeal.Read

namespace Cert.Reference

/-- The source indices a channel sums are those of all batches and points. -/
theorem channel_fiber (hr : S8x512x4096.ReducesTo [0, 2] S512) (o : Fin 512) (i : S8x512x4096.Idx) :
    hr.drop i = (ix1 o : S512.Idx) ↔ ∃ p : Fin 8 × Fin 4096, (ix3 p.1 o p.2 : S8x512x4096.Idx) = i := by
  constructor
  · intro e
    refine ⟨(i 0, i 2), ?_⟩
    funext a
    apply Fin.ext
    match a with
    | ⟨0, _⟩ => rfl
    | ⟨1, _⟩ => exact (congrArg Fin.val (congrFun e (0 : Fin 1))).symm
    | ⟨2, _⟩ => rfl
  · rintro ⟨p, rfl⟩
    funext b
    apply Fin.ext
    match b with
    | ⟨0, _⟩ => rfl

/-- A sum over batches and points, read at a channel. -/
theorem channel_sum (y : S8x512x4096.Idx → EReal) (z : EReal) (o : Fin 512) :
    Ideal.hostReduceAdd reducesTo_S8x512x4096_S512_d0_2 y z (ix1 o) = z + ∑ b : Fin 8, ∑ n : Fin 4096, y (ix3 b o n) := by
  refine congrArg (z + ·) ?_
  refine (Finset.sum_filter_eq_sum_of_fiber _ (fun p : Fin 8 × Fin 4096 => (ix3 p.1 o p.2 : S8x512x4096.Idx))
    (fun p q e => Prod.ext (congrFun e (0 : Fin 3)) (congrFun e (2 : Fin 3))) (channel_fiber _ o) y).trans ?_
  simp only [Fintype.sum_prod_type]

/-- The mean of every channel. -/
def means (y : FVec Ideal S8x512x4096 .f32) : FVec Ideal S1x512x1 .f32 :=
  Host.divf (broadcastInDim S1x512x1 ![1] bcast_S512_S1x512x1_1
      (Host.reduceAdd y (constant S_ .f32 0x00000000#32) reducesTo_S8x512x4096_S512_d0_2 h_S_))
    (broadcastInDim S1x512x1 ![] bcast_S_S1x512x1 (constant S_ .f32 0x47000000#32))

/-- The deviations from the means. -/
def deviations (y : FVec Ideal S8x512x4096 .f32) : FVec Ideal S8x512x4096 .f32 :=
  subf y (broadcastInDim S8x512x4096 ![0, 1, 2] bcast_S1x512x1_S8x512x4096_0_1_2 (means y))

/-- The number of batches and points, less no correction. -/
def count : FVec Ideal S_ .f32 := subf (constant S_ .f32 0x47000000#32) (sitofp .f32 (constantI S_ 32 0#32))

/-- The variance of every channel. -/
def variances (y : FVec Ideal S8x512x4096 .f32) : FVec Ideal S1x512x1 .f32 :=
  select (broadcastInDim S1x512x1 ![] bcast_S_S1x512x1 (cmpf .ogt count (constant S_ .f32 0x00000000#32)))
    (Host.divf (broadcastInDim S1x512x1 ![1] bcast_S512_S1x512x1_1
        (Host.reduceAdd (mulf (deviations y) (deviations y)) (constant S_ .f32 0x00000000#32)
          reducesTo_S8x512x4096_S512_d0_2 h_S_))
      (broadcastInDim S1x512x1 ![] bcast_S_S1x512x1 count))
    (broadcastInDim S1x512x1 ![] bcast_S_S1x512x1 (id (constant S_ .f32 0x7FC00000#32)))

/-- The normalized array, scaled and shifted. -/
def normalized (y : FVec Ideal S8x512x4096 .f32) (g e : FVec Ideal S512 .f32) : FVec Ideal S8x512x4096 .f32 :=
  addf (mulf (broadcastInDim S8x512x4096 ![0, 1, 2] bcast_S1x512x1_S8x512x4096_0_1_2
        (broadcastInDim S1x512x1 ![1] bcast_S512_S1x512x1_1 g))
      (Host.divf (deviations y) (broadcastInDim S8x512x4096 ![0, 1, 2] bcast_S1x512x1_S8x512x4096_0_1_2
        (Host.sqrt (addf (variances y) (broadcastInDim S1x512x1 ![] bcast_S_S1x512x1 (constant S_ .f32 0x3727C5AC#32)))))))
    (broadcastInDim S8x512x4096 ![0, 1, 2] bcast_S1x512x1_S8x512x4096_0_1_2
      (broadcastInDim S1x512x1 ![1] bcast_S512_S1x512x1_1 e))

variable (y : FVec Ideal S8x512x4096 .f32) (h : Fin 512 → Fin 8 → Fin 4096 → ℝ)
  (hy : ∀ b o n, y (ix3 b o n) = ((h o b n : ℝ) : EReal))

include hy in
theorem means_at (o : Fin 512) :
    means y (ix3 (0 : Fin 1) o (0 : Fin 1)) = ((mean 32768 (h o) : ℝ) : EReal) := by
  pointwise [means]
  rw [channel_sum, zero_add, ofBits_count]
  simp only [hy, coe_sum]
  exact div_coe _ _ (by norm_num)

include hy in
theorem deviations_at (b : Fin 8) (o : Fin 512) (n : Fin 4096) :
    deviations y (ix3 b o n) = ((h o b n - mean 32768 (h o) : ℝ) : EReal) := by
  pointwise [deviations]
  rw [means_at y h hy, hy, ← EReal.coe_sub]

theorem no_correction : FloatOps.sitofp (F := Ideal) .f32 (0#32) = (0 : EReal) := by
  show (((0#32 : BitVec 32).toInt : ℝ) : EReal) = 0
  simp

theorem sqrt_coe (v : ℝ) (hv : 0 < v) : Ideal.sqrt (v : EReal) = ((Real.sqrt v : ℝ) : EReal) := by
  show (if v < 0 then ⊥ else ((Real.sqrt v : ℝ) : EReal)) = _
  rw [if_neg hv.not_gt]

include hy in
theorem variances_at (o : Fin 512) :
    variances y (ix3 (0 : Fin 1) o (0 : Fin 1)) = ((var 32768 (h o) : ℝ) : EReal) := by
  pointwise [variances, count]
  rw [channel_sum, zero_add, ofBits_count, no_correction, sub_zero, if_pos (EReal.coe_pos.mpr (by norm_num))]
  have e : ∀ b n, mulf (deviations y) (deviations y) (ix3 b o n)
      = (((h o b n - mean 32768 (h o)) * (h o b n - mean 32768 (h o)) : ℝ) : EReal) := fun b n => by
    pointwise []
    rw [deviations_at y h hy, ← EReal.coe_mul]
  simp only [e, coe_sum]
  rw [div_coe _ _ (by norm_num), var_eq 32768 (h o) (by norm_num [Fintype.card_fin]) (by norm_num)]

include hy in
theorem normalized_at (g e : FVec Ideal S512 .f32) (γ : Fin 512 → ℝ) (hg : ∀ o, g (ix1 o) = ((γ o : ℝ) : EReal))
    (b : Fin 8) (o : Fin 512) (n : Fin 4096) :
    normalized y g e (ix3 b o n)
      = ((γ o * ((h o b n - mean 32768 (h o)) * (Real.sqrt (var 32768 (h o) + small))⁻¹) : ℝ) : EReal) + e (ix1 o) := by
  pointwise [normalized]
  rw [hg, deviations_at y h hy, variances_at y h hy, ofBits_small, ← EReal.coe_add, sqrt_coe _ (var_add_pos (h o)),
    div_coe _ _ (Real.sqrt_pos.mpr (var_add_pos (h o))).ne', div_eq_mul_inv, ← EReal.coe_mul]

section Layers

variable (I : Inputs) (x0 : FVec Ideal S8x3x4096 .f32) (x1 : FVec Ideal S8x3x1024 .f32) (x2 : FVec Ideal S8x4096x256 .f32)
  (x3 : FVec Ideal S8x256x1024 .f32) (x4 : FVec Ideal S512x512 .f32) (x5 x6 x7 : FVec Ideal S512 .f32)
  (x8 : FVec Ideal S512x512 .f32) (x9 x10 x11 : FVec Ideal S512 .f32)

/-- The arguments are `I`'s. -/
structure Given : Prop where
  x0 : ∀ b k n, x0 (ix3 b k n) = ((I.x1 b k n : ℝ) : EReal)
  x1 : ∀ b k s, x1 (ix3 b k s) = ((I.x2 b k s : ℝ) : EReal)
  x2 : ∀ b n f, x2 (ix3 b n f) = ((I.p1 b n f : ℝ) : EReal)
  x3 : ∀ b f s, x3 (ix3 b f s) = ((I.p2 b f s : ℝ) : EReal)
  x4 : ∀ o f, x4 (ix2 o f) = ((I.w1 o f : ℝ) : EReal)
  x5 : ∀ o, x5 (ix1 o) = ((I.b1 o : ℝ) : EReal)
  x6 : ∀ o, x6 (ix1 o) = ((I.g1 o : ℝ) : EReal)
  x7 : ∀ o, x7 (ix1 o) = ((I.e1 o : ℝ) : EReal)
  x8 : ∀ o f, x8 (ix2 o f) = ((I.w2 o f : ℝ) : EReal)
  x9 : ∀ o, x9 (ix1 o) = ((I.b2 o : ℝ) : EReal)
  x10 : ∀ o, x10 (ix1 o) = ((I.g2 o : ℝ) : EReal)
  x11 : ∀ o, x11 (ix1 o) = I.e2 o

theorem first_normalized : val_main_v61 (F := Ideal) x0 x1 x2 x3 x4 x5 x6 x7
    = normalized (val_main_v43 (F := Ideal) x0 x1 x2 x3 x4 x5) x6 x7 := rfl

theorem second_normalized : val_main_v85 (F := Ideal) x0 x1 x2 x3 x4 x5 x6 x7 x8 x9 x10 x11
    = normalized (val_main_v67 (F := Ideal) x0 x1 x2 x3 x4 x5 x6 x7 x8 x9) x10 x11 := rfl

variable {I x0 x1 x2 x3 x4 x5 x6 x7 x8 x9 x10 x11}
variable (hA : Given I x0 x1 x2 x3 x4 x5 x6 x7 x8 x9 x10 x11)

include hA in
theorem first_active (b : Fin 8) (o : Fin 512) (n : Fin 4096) :
    val_main_v62 (F := Ideal) x0 x1 x2 x3 x4 x5 x6 x7 (ix3 b o n) = ((I.a1 (near I) o b n : ℝ) : EReal) := by
  unfold val_main_v62
  rw [first_normalized]
  pointwise [val_main_call1_v0, val_main_call1_cst]
  rw [normalized_at _ (I.h1 (near I)) (first I x0 x1 x2 x3 hA.x0 hA.x1 hA.x2 hA.x3 x4 x5 hA.x4 hA.x5) x6 x7 I.g1 hA.x6,
    hA.x7, ← EReal.coe_add, coe_max_zero]
  rfl

include hA in
theorem second (b : Fin 8) (o : Fin 512) (n : Fin 4096) :
    val_main_v67 (F := Ideal) x0 x1 x2 x3 x4 x5 x6 x7 x8 x9 (ix3 b o n) = ((I.h2 (near I) o b n : ℝ) : EReal) := by
  pointwise [val_main_v67, val_main_v66, val_main_v65, val_main_v64, val_main_v63]
  simp only [first_active hA, hA.x8, hA.x9, ← EReal.coe_mul, coe_sum, ← EReal.coe_add]
  refine congrArg (fun r : ℝ => (r : EReal)) ?_
  unfold Inputs.h2 layer2
  exact congrArg (· + I.b2 o) (Finset.sum_congr rfl fun f _ => mul_comm _ _)

include hA in
/-- The reference's result. -/
theorem value (b : Fin 8) (o : Fin 512) (n : Fin 4096) :
    val_main_v86 (F := Ideal) x0 x1 x2 x3 x4 x5 x6 x7 x8 x9 x10 x11 (ix3 b o n) = I.result (near I) o b n := by
  unfold val_main_v86
  rw [second_normalized]
  pointwise [val_main_call3_v0, val_main_call3_cst]
  rw [normalized_at _ (I.h2 (near I)) (second hA) x10 x11 I.g2 hA.x10, hA.x11]
  rfl

end Layers

end Cert.Reference

end
-- ==== Proof.Condition.lean ====
/- What the precondition says of the arguments: real entries, and the five nearest distances of every point apart. -/
module

public import proofs.«01_k».proof.Proof.Reference2
public import proofs.«01_k».proof.Pre_five_nearest_differ
public import proofs.«01_k».proof.Proof.Gen.Pre_five_nearest_differ

@[expose] public section

set_option maxRecDepth 16384

noncomputable section

open Idealize.ShloMosaic Cert.Constants Cert.Nearest Cert.Model Cert.Neighbours Cert.Reference
open Cert.Pre_five_nearest_differ

namespace Cert.Condition

theorem real_of_abs_lt (a : EReal) (h : max a (-a) < ⊤) : a = ((a.toReal : ℝ) : EReal) := by
  have h' := max_lt_iff.mp h
  refine (EReal.coe_toReal h'.1.ne ?_).symm
  rintro rfl
  exact absurd h'.2 (by simp)

/-- An array whose absolute values all compare below infinity is real. -/
theorem real_of_test {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    x i = (((x i).toReal : ℝ) : EReal) := by
  refine real_of_abs_lt _ ?_
  have e : BitVec.ofBool (decide (max (x i) (-(x i)) < Ideal.ofBits FTy.f32 0x7F800000#32)) = 1#1 := congrFun h i
  rw [show Ideal.ofBits FTy.f32 0x7F800000#32 = (⊤ : EReal) from ofBits_infinity] at e
  by_contra hn
  rw [decide_eq_false hn] at e
  exact absurd e (by decide)

variable (x0 : FVec Ideal S8x3x4096 .f32) (x1 : FVec Ideal S8x3x1024 .f32) (x2 : FVec Ideal S8x4096x256 .f32)
  (x3 : FVec Ideal S8x256x1024 .f32) (x4 : FVec Ideal S512x512 .f32) (x5 x6 x7 : FVec Ideal S512 .f32)
  (x8 : FVec Ideal S512x512 .f32) (x9 x10 x11 : FVec Ideal S512 .f32)

/-- The real arguments. -/
def inputs : Inputs where
  x1 b k n := (x0 (ix3 b k n)).toReal
  x2 b k s := (x1 (ix3 b k s)).toReal
  p1 b n f := (x2 (ix3 b n f)).toReal
  p2 b f s := (x3 (ix3 b f s)).toReal
  w1 o f := (x4 (ix2 o f)).toReal
  b1 o := (x5 (ix1 o)).toReal
  g1 o := (x6 (ix1 o)).toReal
  e1 o := (x7 (ix1 o)).toReal
  w2 o f := (x8 (ix2 o f)).toReal
  b2 o := (x9 (ix1 o)).toReal
  g2 o := (x10 (ix1 o)).toReal
  e2 o := x11 (ix1 o)

/-- The precondition's twelve parts. -/
def Holds : Prop :=
  (fn (F := Ideal) x0 x1 x2 x3 x4 x5 x6 x7 x8 x9 x10 x11).1 = (fun _ => 1#1)
  ∧ (fn (F := Ideal) x0 x1 x2 x3 x4 x5 x6 x7 x8 x9 x10 x11).2.1 = (fun _ => 1#1)
  ∧ (fn (F := Ideal) x0 x1 x2 x3 x4 x5 x6 x7 x8 x9 x10 x11).2.2.1 = (fun _ => 1#1)
  ∧ (fn (F := Ideal) x0 x1 x2 x3 x4 x5 x6 x7 x8 x9 x10 x11).2.2.2.1 = (fun _ => 1#1)
  ∧ (fn (F := Ideal) x0 x1 x2 x3 x4 x5 x6 x7 x8 x9 x10 x11).2.2.2.2.1 = (fun _ => 1#1)
  ∧ (fn (F := Ideal) x0 x1 x2 x3 x4 x5 x6 x7 x8 x9 x10 x11).2.2.2.2.2.1 = (fun _ => 1#1)
  ∧ (fn (F := Ideal) x0 x1 x2 x3 x4 x5 x6 x7 x8 x9 x10 x11).2.2.2.2.2.2.1 = (fun _ => 1#1)
  ∧ (fn (F := Ideal) x0 x1 x2 x3 x4 x5 x6 x7 x8 x9 x10 x11).2.2.2.2.2.2.2.1 = (fun _ => 1#1)
  ∧ (fn (F := Ideal) x0 x1 x2 x3 x4 x5 x6 x7 x8 x9 x10 x11).2.2.2.2.2.2.2.2.1 = (fun _ => 1#1)
  ∧ (fn (F := Ideal) x0 x1 x2 x3 x4 x5 x6 x7 x8 x9 x10 x11).2.2.2.2.2.2.2.2.2.1 = (fun _ => 1#1)
  ∧ (fn (F := Ideal) x0 x1 x2 x3 x4 x5 x6 x7 x8 x9 x10 x11).2.2.2.2.2.2.2.2.2.2.1 = (fun _ => 1#1)
  ∧ (fn (F := Ideal) x0 x1 x2 x3 x4 x5 x6 x7 x8 x9 x10 x11).2.2.2.2.2.2.2.2.2.2.2 = (fun _ => 1#1)

variable {x0 x1 x2 x3 x4 x5 x6 x7 x8 x9 x10 x11}
variable (h : Holds x0 x1 x2 x3 x4 x5 x6 x7 x8 x9 x10 x11)
include h

theorem given : Given (inputs x0 x1 x2 x3 x4 x5 x6 x7 x8 x9 x10 x11) x0 x1 x2 x3 x4 x5 x6 x7 x8 x9 x10 x11 := by
  obtain ⟨-, t0, t1, t2, t3, t4, t5, t6, t7, t8, t9, t10⟩ := h
  exact {
    x0 := fun b k n => real_of_test x0 Facts.bcast_S_S8x3x4096 t0 _
    x1 := fun b k s => real_of_test x1 Facts.bcast_S_S8x3x1024 t1 _
    x2 := fun b n f => real_of_test x2 Facts.bcast_S_S8x4096x256 t2 _
    x3 := fun b f s => real_of_test x3 Facts.bcast_S_S8x256x1024 t3 _
    x4 := fun o f => real_of_test x4 Facts.bcast_S_S512x512 t4 _
    x5 := fun o => real_of_test x5 Facts.bcast_S_S512 t5 _
    x6 := fun o => real_of_test x6 Facts.bcast_S_S512 t6 _
    x7 := fun o => real_of_test x7 Facts.bcast_S_S512 t7 _
    x8 := fun o f => real_of_test x8 Facts.bcast_S_S512x512 t8 _
    x9 := fun o => real_of_test x9 Facts.bcast_S_S512 t9 _
    x10 := fun o => real_of_test x10 Facts.bcast_S_S512 t10 _
    x11 := fun o => rfl }

omit h in
/-- The negated distances. -/
def negatives (x0 : FVec Ideal S8x3x4096 .f32) (x1 : FVec Ideal S8x3x1024 .f32) : FVec Ideal S8x4096x1024 .f32 :=
  Cert.ReferenceIdeal.Read.val_main_v16 (F := Ideal) x0 x1

omit h in
/-- The five greatest. -/
def greatest (x0 : FVec Ideal S8x3x4096 .f32) (x1 : FVec Ideal S8x3x1024 .f32) : FVec Ideal S8x4096x5 .f32 :=
  (Host.topK S8x4096x5 2 (FloatOps.cmpfTotal .gt) (negatives x0 x1) Facts.sliceFits_S8x4096x1024_S8x4096x5).1

omit h in
/-- The first part compares each of the five greatest with the next. -/
theorem first_part : (fn (F := Ideal) x0 x1 x2 x3 x4 x5 x6 x7 x8 x9 x10 x11).1
    = cmpf .ogt (extractStridedSlice S8x4096x4 ![0, 0, 0] (greatest x0 x1) Facts.slices_S8x4096x5_S8x4096x4_0_0_0)
      (extractStridedSlice S8x4096x4 ![0, 0, 1] (greatest x0 x1) Facts.slices_S8x4096x5_S8x4096x4_0_0_1) := rfl

omit h in
theorem this_one (v : FVec Ideal S8x4096x5 .f32) (b : Fin 8) (n : Fin 4096) (k : Fin 4) :
    extractStridedSlice S8x4096x4 ![0, 0, 0] v Facts.slices_S8x4096x5_S8x4096x4_0_0_0 (ix3 b n k)
      = v (ix3 b n (⟨k.val, by omega⟩ : Fin 5)) := by
  refine congrArg v (funext fun a => Fin.ext ?_)
  match a with
  | ⟨0, _⟩ => exact Nat.zero_add _
  | ⟨1, _⟩ => exact Nat.zero_add _
  | ⟨2, _⟩ => exact Nat.zero_add _

omit h in
theorem next_one (v : FVec Ideal S8x4096x5 .f32) (b : Fin 8) (n : Fin 4096) (k : Fin 4) :
    extractStridedSlice S8x4096x4 ![0, 0, 1] v Facts.slices_S8x4096x5_S8x4096x4_0_0_1 (ix3 b n k)
      = v (ix3 b n (⟨k.val + 1, by omega⟩ : Fin 5)) := by
  refine congrArg v (funext fun a => Fin.ext ?_)
  match a with
  | ⟨0, _⟩ => exact Nat.zero_add _
  | ⟨1, _⟩ => exact Nat.zero_add _
  | ⟨2, _⟩ => exact Nat.add_comm _ _

/-- The four first positions are the four nearest neighbours. -/
theorem near_near : (inputs x0 x1 x2 x3 x4 x5 x6 x7 x8 x9 x10 x11).Near (near (inputs x0 x1 x2 x3 x4 x5 x6 x7 x8 x9 x10 x11)) := by
  have hA := given h
  have t := h.1
  rw [first_part] at t
  intro b n
  refine front_first4 _ fun k => ?_
  have hK : 5 ≤ 1024 := by norm_num
  have v := topK_value (K := 5) hK (negatives x0 x1) _ (negated _ x0 x1 hA.x0 hA.x1) Facts.sliceFits_S8x4096x1024_S8x4096x5 b n
  have e : BitVec.ofBool (decide (
      extractStridedSlice S8x4096x4 ![0, 0, 1] (greatest x0 x1) Facts.slices_S8x4096x5_S8x4096x4_0_0_1 (ix3 b n k)
      < extractStridedSlice S8x4096x4 ![0, 0, 0] (greatest x0 x1) Facts.slices_S8x4096x5_S8x4096x4_0_0_0 (ix3 b n k))) = 1#1 :=
    congrFun t (ix3 b n k)
  rw [this_one, next_one] at e
  have l : greatest x0 x1 (ix3 b n (⟨k.val + 1, by omega⟩ : Fin 5)) < greatest x0 x1 (ix3 b n (⟨k.val, by omega⟩ : Fin 5)) := by
    by_contra hn
    rw [decide_eq_false hn] at e
    exact absurd e (by decide)
  have l' := (v ⟨k.val + 1, by omega⟩).symm.trans_lt (l.trans_eq (v ⟨k.val, by omega⟩))
  exact neg_lt_neg_iff.mp (EReal.coe_lt_coe_iff.mp l')

end Cert.Condition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_five_nearest_differ
public import proofs.«01_k».proof.Proof.KernelRun
public import proofs.«01_k».proof.Proof.Condition
public import Idealize.ShloMosaic.Adequacy
public import Idealize.ShloMosaic.Init

@[expose] public section

noncomputable section

namespace Cert.Proof

open Idealize.ShloMosaic Idealize.ShloMosaic.TcCoe Idealize.SL.Sem Cert.Kernel

/-- The reference's run, keeping what its frame asks. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- One device's arguments meet the condition. -/
abbrev Met (m : (ℓ : Loc Cert.KernelIdeal.nD Cert.KernelIdeal.τ Cert.KernelIdeal.sig) → Buf (Elt Ideal) ℓ) (c : Dev Cert.KernelIdeal.nD) : Prop :=
  Cert.Condition.Holds
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))

/-- On arguments meeting the condition the kernel leaves the reference's value. -/
theorem same (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (h : Met m c) :
    Cert.ReferenceIdeal.Read.val_main_v86 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      = Cert.KernelIdeal.Gen.W6 m ρ c Cert.KernelIdeal.main_v21 := by
  have hA := Cert.Condition.given h
  have hK : Cert.KernelRun.Args m c _ := ⟨hA.x0, hA.x1, hA.x2, hA.x3, hA.x4, hA.x5, hA.x6, hA.x7, hA.x8, hA.x9, hA.x10, hA.x11⟩
  refine Eq.trans ?_ (Cert.KernelRun.value ρ hK (Cert.Condition.near_near h)).symm
  funext i
  have e : i = ix3 (i 0) (i 1) (i 2) := funext fun a => by
    match a with
    | ⟨0, _⟩ => rfl
    | ⟨1, _⟩ => rfl
    | ⟨2, _⟩ => rfl
  exact (congrArg _ e).trans (Cert.Reference.value hA (i 0) (i 1) (i 2))

/-- Equal arguments give equal values. -/
theorem value_congr
    {x0 y0 : FVec Ideal Cert.ReferenceIdeal.S8x3x4096 .f32} (h0 : x0 = y0)
    {x1 y1 : FVec Ideal Cert.ReferenceIdeal.S8x3x1024 .f32} (h1 : x1 = y1)
    {x2 y2 : FVec Ideal Cert.ReferenceIdeal.S8x4096x256 .f32} (h2 : x2 = y2)
    {x3 y3 : FVec Ideal Cert.ReferenceIdeal.S8x256x1024 .f32} (h3 : x3 = y3)
    {x4 y4 : FVec Ideal Cert.ReferenceIdeal.S512x512 .f32} (h4 : x4 = y4)
    {x5 y5 : FVec Ideal Cert.ReferenceIdeal.S512 .f32} (h5 : x5 = y5)
    {x6 y6 : FVec Ideal Cert.ReferenceIdeal.S512 .f32} (h6 : x6 = y6)
    {x7 y7 : FVec Ideal Cert.ReferenceIdeal.S512 .f32} (h7 : x7 = y7)
    {x8 y8 : FVec Ideal Cert.ReferenceIdeal.S512x512 .f32} (h8 : x8 = y8)
    {x9 y9 : FVec Ideal Cert.ReferenceIdeal.S512 .f32} (h9 : x9 = y9)
    {x10 y10 : FVec Ideal Cert.ReferenceIdeal.S512 .f32} (h10 : x10 = y10)
    {x11 y11 : FVec Ideal Cert.ReferenceIdeal.S512 .f32} (h11 : x11 = y11) :
    Cert.ReferenceIdeal.Read.val_main_v86 (F := Ideal) x0 x1 x2 x3 x4 x5 x6 x7 x8 x9 x10 x11
      = Cert.ReferenceIdeal.Read.val_main_v86 (F := Ideal) y0 y1 y2 y3 y4 y5 y6 y7 y8 y9 y10 y11 := by
  subst h0 h1 h2 h3 h4 h5 h6 h7 h8 h9 h10 h11
  rfl

/-- The value claim. -/
theorem algebraic : Cert.algebraic_KernelIdeal_ReferenceIdeal_pre_five_nearest_differ := by
  intro m ρ m' ρ' hp ha
  refine ⟨fun c => Cert.KernelIdeal.Gen.W6 m ρ c Cert.KernelIdeal.main_v21, Cert.KernelRun.run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v86_eq _).trans ?_
  obtain ⟨a0, a1, a2, a3, a4, a5, a6, a7, a8, a9, a10, a11⟩ := ha c
  exact (value_congr a0 a1 a2 a3 a4 a5 a6 a7 a8 a9 a10 a11).trans (same m ρ c (hp c))

theorem claim : Cert.Claim := ⟨Cert.Kernel.Gen.facts, Cert.KernelIdeal.Gen.facts, Cert.ReferenceIdeal.Gen.facts,
  Cert.Pre_five_nearest_differ.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  trivial,
  algebraic⟩

end Cert.Proof

end
